-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨2, ![8192, 1024]⟩ ⟨2, ![32768, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1x1024 : Shape := ⟨2, ![1, 1024]⟩
abbrev S8x256x1024 : Shape := ⟨3, ![8, 256, 1024]⟩
abbrev S4x1024x1024 : Shape := ⟨3, ![4, 1024, 1024]⟩
abbrev S3x1x1024 : Shape := ⟨3, ![3, 1, 1024]⟩
abbrev S4 : Shape := ⟨1, ![4]⟩
abbrev S8 : Shape := ⟨1, ![8]⟩
abbrev S3 : Shape := ⟨1, ![3]⟩
abbrev S256x256 : Shape := ⟨2, ![256, 256]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1x1024 : Shape := ⟨3, ![1, 1, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .bf16⟩
  | .hbm, ⟨4, _⟩ => ⟨S8192x1024, .bf16⟩
  | .hbm, ⟨5, _⟩ => ⟨S8192x1024, .bf16⟩
  | .local _ .vmem, ⟨0, _⟩ => ⟨S1x1024, .f32⟩
  | .local _ .vmem, ⟨1, _⟩ => ⟨S8x256x1024, .bf16⟩
  | .local _ .vmem, ⟨2, _⟩ => ⟨S4x1024x1024, .f32⟩
  | .local _ .vmem, ⟨3, _⟩ => ⟨S1x1024, .f32⟩
  | .local _ .vmem, ⟨4, _⟩ => ⟨S3x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v10 : BitVec 32 := Scalar.addi v2 c1_i32_0
  let c4_i32_1 : BitVec 32 := 4#32
  let v11 : BitVec 32 := Scalar.remsi v10 c4_i32_1
  let c1_i32_3 : BitVec 32 := 1#32
  let v12 : BitVec 32 := Scalar.muli v11 c1_i32_3
  let v13 : BitVec 32 := Scalar.addi c0_i32 v12
  v13.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_4 : BitVec 32 := 4#32
  let v15 : BitVec 32 := Scalar.remsi v14 c4_i32_4
  let c1_i32_6 : BitVec 32 := 1#32
  let v16 : BitVec 32 := Scalar.muli v15 c1_i32_6
  let v17 : BitVec 32 := Scalar.addi c0_i32_7 v16
  v17.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v18 : BitVec 32 := Scalar.addi v2 c3_i32
  let c4_i32_8 : BitVec 32 := 4#32
  let v19 : BitVec 32 := Scalar.remsi v18 c4_i32_8
  let c1_i32_10 : BitVec 32 := 1#32
  let v20 : BitVec 32 := Scalar.muli v19 c1_i32_10
  let v21 : BitVec 32 := Scalar.addi c0_i32_11 v20
  v21.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_626 : BitVec 32 := 1#32
  let v738 : BitVec 32 := Scalar.addi v2 c1_i32_626
  let c3_i32_627 : BitVec 32 := 3#32
  let v739 : BitVec 1 := Scalar.cmpi .sle v738 c3_i32_627
  let v740 : BitVec 32 := Scalar.extui v739
  let c0_i32_628 : BitVec 32 := 0#32
  let v741 : BitVec 1 := Scalar.cmpi .ne v740 c0_i32_628
  v741

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_720 : BitVec 32 := 0#32
  let c0_i32_721 : BitVec 32 := 0#32
  ![v2.toNat, 0, 0]
def k0_dev4 (d0 : Dev nD) : Nat :=
  let c0_i32_719 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_716 : BitVec 32 := 1#32
  let v831 : BitVec 32 := Scalar.addi v2 c1_i32_716
  let c1_i32_718 : BitVec 32 := 1#32
  let v832 : BitVec 32 := Scalar.muli v831 c1_i32_718
  let v833 : BitVec 32 := Scalar.addi c0_i32_719 v832
  v833.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_629 : BitVec 32 := 2#32
  let v742 : BitVec 32 := Scalar.addi v2 c2_i32_629
  let c3_i32_630 : BitVec 32 := 3#32
  let v743 : BitVec 1 := Scalar.cmpi .sle v742 c3_i32_630
  let v744 : BitVec 32 := Scalar.extui v743
  let c0_i32_631 : BitVec 32 := 0#32
  let v745 : BitVec 1 := Scalar.cmpi .ne v744 c0_i32_631
  v745

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_720 : BitVec 32 := 0#32
  let c0_i32_721 : BitVec 32 := 0#32
  ![v2.toNat, 0, 0]
def k0_dev5 (d0 : Dev nD) : Nat :=
  let c0_i32_719 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_716 : BitVec 32 := 2#32
  let v831 : BitVec 32 := Scalar.addi v2 c2_i32_716
  let c1_i32_718 : BitVec 32 := 1#32
  let v832 : BitVec 32 := Scalar.muli v831 c1_i32_718
  let v833 : BitVec 32 := Scalar.addi c0_i32_719 v832
  v833.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_632 : BitVec 32 := 3#32
  let v746 : BitVec 32 := Scalar.addi v2 c3_i32_632
  let c3_i32_633 : BitVec 32 := 3#32
  let v747 : BitVec 1 := Scalar.cmpi .sle v746 c3_i32_633
  let v748 : BitVec 32 := Scalar.extui v747
  let c0_i32_634 : BitVec 32 := 0#32
  let v749 : BitVec 1 := Scalar.cmpi .ne v748 c0_i32_634
  v749

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_720 : BitVec 32 := 0#32
  let c0_i32_721 : BitVec 32 := 0#32
  ![v2.toNat, 0, 0]
def k0_dev6 (d0 : Dev nD) : Nat :=
  let c0_i32_719 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_716 : BitVec 32 := 3#32
  let v831 : BitVec 32 := Scalar.addi v2 c3_i32_716
  let c1_i32_718 : BitVec 32 := 1#32
  let v832 : BitVec 32 := Scalar.muli v831 c1_i32_718
  let v833 : BitVec 32 := Scalar.addi c0_i32_719 v832
  v833.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_707 : BitVec 32 := 1#32
  let v819 : BitVec 32 := Scalar.addi v2 c1_i32_707
  let c3_i32_708 : BitVec 32 := 3#32
  let v820 : BitVec 1 := Scalar.cmpi .sle v819 c3_i32_708
  let v821 : BitVec 32 := Scalar.extui v820
  let c0_i32_709 : BitVec 32 := 0#32
  let v822 : BitVec 1 := Scalar.cmpi .ne v821 c0_i32_709
  v822

def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_719 : BitVec 32 := 0#32
  let c0_i32_720 : BitVec 32 := 0#32
  ![v2.toNat, 0, 0]
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_710 : BitVec 32 := 2#32
  let v823 : BitVec 32 := Scalar.addi v2 c2_i32_710
  let c3_i32_711 : BitVec 32 := 3#32
  let v824 : BitVec 1 := Scalar.cmpi .sle v823 c3_i32_711
  let v825 : BitVec 32 := Scalar.extui v824
  let c0_i32_712 : BitVec 32 := 0#32
  let v826 : BitVec 1 := Scalar.cmpi .ne v825 c0_i32_712
  v826

def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_719 : BitVec 32 := 0#32
  let c0_i32_720 : BitVec 32 := 0#32
  ![v2.toNat, 0, 0]
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_713 : BitVec 32 := 3#32
  let v827 : BitVec 32 := Scalar.addi v2 c3_i32_713
  let c3_i32_714 : BitVec 32 := 3#32
  let v828 : BitVec 1 := Scalar.cmpi .sle v827 c3_i32_714
  let v829 : BitVec 32 := Scalar.extui v828
  let c0_i32_715 : BitVec 32 := 0#32
  let v830 : BitVec 1 := Scalar.cmpi .ne v829 c0_i32_715
  v830

def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_719 : BitVec 32 := 0#32
  let c0_i32_720 : BitVec 32 := 0#32
  ![v2.toNat, 0, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S_, .f32⟩
  | .hbm, ⟨3, _⟩ => ⟨S32768x1024, .f32⟩
  | .hbm, ⟨4, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Proto.lean ====
/-
  The protocol between the four devices, stated before any program is run.

  CELLS of device c (round 0 of each is the only round used):
  * the barrier cell: the three other devices signal one unit each at entry; c waits for all three right before it
    sends. The signal of a LATER device e > c hands c the right to write e's receive row number c.
  * receive cell j (j = 0, 1, 2): device j < c copies its column total into c's receive row j and credits this cell;
    the landing hands c the row, holding device j's total.
  * send cell t (t = 0, 1, 2): c's own copy to device c + t + 1 credits it when its source has been read; the landing
    hands back the share of the total buffer that was lent.
  The local copies between HBM and VMEM are not part of the protocol.

  LEVELS: barrier 1, receive cells of device e at 2 + e, everything else 0. A device owes receive credits to later devices
  only, so every cell of its own lies below all it owes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.ValueLayout
public import Idealize.ShloMosaic.Lib.Tactic

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra -/

/-- The protocol's rounds: a duty of a cell is named by the device that pays it. -/
abbrev UB : Type := URounds (GSem nD τ sig) (Dev nD)
/-- The staging pipeline's rounds, the protocol's, and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the protocol's rounds lie. -/
def ER : Emb UB (MT nD τ sig Unit (Elt F) ℕ UU ℕ) :=
  (Emb.inl : Emb UB (UB × Counters)).trans embR
instance ER_landsIn : (ER : Emb UB 𝕄).LandsIn (upEmb : UEmb _ 𝕄) := by unfold ER; infer_instance

abbrev 𝒱₀ : Variants := Variants.none

/-! ## Buffers and cells -/

abbrev xM : Memref sig .tc .hbm S8192x1024 .f32 := Memref.whole main_arg0
abbrev oM : Memref sig .tc .hbm S8192x1024 .bf16 := Memref.whole main_v1_0
abbrev gM : Memref sig .tc .vmem S8x256x1024 .bf16 := Memref.whole cc0_scratch0
abbrev bM : Memref sig .tc .vmem S4x1024x1024 .f32 := Memref.whole cc0_scratch1
abbrev sM : Memref sig .tc .vmem S1x1024 .f32 := Memref.whole cc0_scratch2
abbrev rM : Memref sig .tc .vmem S3x1x1024 .f32 := Memref.whole cc0_scratch3
abbrev fM : Memref sig .tc .vmem S1x1024 .f32 := win0_0.stage 0

/-- The device `t + 1` places after `c` around the mesh. -/
def nth (c : Dev nD) (t : ℕ) : Dev nD := ⟨(c.val + t + 1) % 4, Nat.mod_lt _ (by decide)⟩

abbrev barS : Sem sig := ⟨0, by decide⟩
/-- The semaphore of send cell `t`. -/
def sendS (t : ℕ) : DmaSem sig := ⟨13 + t % 3, by
  have h : 13 + t % 3 < 19 := by omega
  exact h⟩
/-- The semaphore of receive cell `j`. -/
def recvS (j : ℕ) : DmaSem sig := ⟨16 + j % 3, by
  have h : 16 + j % 3 < 19 := by omega
  exact h⟩

abbrev barCell (c : Dev nD) : GSem nD τ sig := ((c : Thread nD τ), .reg barS)
abbrev sendCell (c : Dev nD) (t : ℕ) : GSem nD τ sig := ((c : Thread nD τ), .dma (sendS t))
abbrev recvCell (c : Dev nD) (j : ℕ) : GSem nD τ sig := ((c : Thread nD τ), .dma (recvS j))

/-- The credit of one row of 1024 f32 values. -/
def N : ℕ := (sM : Memref sig .tc .vmem S1x1024 .f32).view.dmaCredit
theorem N_pos : 0 < N := View.dmaCredit_pos _ (by decide)

/-- The elements of receive row `j`. -/
def rowSet (j : ℕ) : Finset S3x1x1024.Idx := Finset.univ.filter fun i => (i 0).val = j

/-- Device c's receive row j at the contents f. -/
abbrev rowPt (c : Dev nD) (j : ℕ) (f : Buf (Elt F) (rM.view.loc (c : Thread nD τ))) : sProp 𝕄 :=
  rM.view.loc (c : Thread nD τ) ↦[rowSet j]{fullShare} f

/-- A share of device c's total buffer at the contents f. -/
abbrev totPt (c : Dev nD) (q : PosShare TreeShare) (f : Buf (Elt F) (sM.view.loc (c : Thread nD τ))) : sProp 𝕄 :=
  sM.view.loc (c : Thread nD τ) ↦[sM.view.set]{q} f

/-- The share of the total buffer lent to send `t`: a half, a quarter, a quarter. -/
def shareOf : ℕ → PosShare TreeShare
  | 0 => fullShare.left
  | 1 => fullShare.right.left
  | _ => fullShare.right.right

/-- What the receive rows hold when device j's total is `T j`: row j holds it. -/
def rowsOf (T : Dev nD → FVec F S1x1024 .f32) : S3x1x1024.Idx → F .f32 :=
  fun i => T ⟨(i 0).val, by have h : (i 0).val < 3 := (i 0).isLt; exact Nat.lt_of_lt_of_le h (by decide)⟩ (ix2 0 ⟨(i 2).val, (i 2).isLt⟩)

/-! ## The schedule -/

/-- The right device c gets from a later device e: to write e's receive row c, at whatever it holds, the receive cell
    being open. -/
def give (e c : Dev nD) : sProp 𝕄 :=
  if c < e then iprop((∃ f, rowPt e c.val f) ∗ reached ER (recvCell e c.val) 0) else iprop(emp)

/-- Who pays the cell `sm` of device c. -/
def dutiesOf (c : Dev nD) : SemLoc sig → Finset (Dev nD)
  | .reg _ => Finset.univ.erase c
  | .dma i =>
    if 16 ≤ i.val then Finset.univ.filter fun d => d.val = i.val - 16 ∧ d < c
    else if 13 ≤ i.val then Finset.univ.filter fun d => d = c ∧ c.val + (i.val - 13) + 1 ≤ 3
    else ∅

def amtOf : SemLoc sig → ℕ
  | .reg _ => 1
  | .dma _ => N

/-- What the payment of device d to the cell `sm` of device c hands over. -/
def payOf (T : Dev nD → FVec F S1x1024 .f32) (c d : Dev nD) : SemLoc sig → sProp 𝕄
  | .reg _ => give d c
  | .dma i => if 16 ≤ i.val then rowPt c d.val (rowsOf T) else totPt c (shareOf (i.val - 13)) (T c)

/-- The protocol over the devices' totals `T`. -/
def Rd (T : Dev nD → FVec F S1x1024 .f32) : Rounds.Schedule (GSem nD τ sig) (Dev nD) 𝕄 where
  duties g r := if r = 0 ∧ g.1.2 = .tc then dutiesOf g.1.1 g.2 else ∅
  unitless _ := False
  amount g _ _ := amtOf g.2
  payload g _ d := payOf T g.1.1 d g.2
  amount_pos g _ _ _ := by
    rcases g.2 with s | s
    · exact Nat.one_pos
    · exact N_pos

instance Rd_payload_storable (T : Dev nD → FVec F S1x1024 .f32) (g : GSem nD τ sig) (r : ℕ) (d : Dev nD) :
    BI.Storable (upEmb : UEmb _ 𝕄) ((Rd T).payload g r d) := by
  show BI.Storable upEmb (payOf T g.1.1 d g.2)
  rcases g.2 with s | i
  · show BI.Storable upEmb (give d g.1.1)
    unfold give
    by_cases h : g.1.1 < d
    · rw [if_pos h]; infer_instance
    · rw [if_neg h]; infer_instance
  · by_cases h : 16 ≤ i.val
    · rw [show payOf T g.1.1 d (.dma i : SemLoc sig) = (rowPt g.1.1 d.val (rowsOf T) : sProp 𝕄) from if_pos h]; infer_instance
    · rw [show payOf T g.1.1 d (.dma i : SemLoc sig) = (totPt g.1.1 (shareOf (i.val - 13)) (T g.1.1) : sProp 𝕄) from if_neg h]
      infer_instance

section Tables

variable (T : Dev nD → FVec F S1x1024 .f32) (c : Dev nD)

theorem duties_zero (sm : SemLoc sig) : (Rd T).duties ((c : Thread nD τ), sm) 0 = dutiesOf c sm :=
  show (if (0 : ℕ) = 0 ∧ ((c : Thread nD τ)).2 = .tc then dutiesOf c sm else ∅) = dutiesOf c sm from if_pos ⟨rfl, rfl⟩
theorem duties_bar : (Rd T).duties (barCell c) 0 = Finset.univ.erase c := duties_zero T c _
theorem duties_send (t : ℕ) (ht : t < 3) (h : c.val + t + 1 ≤ 3) : (Rd T).duties (sendCell c t) 0 = {c} := by
  refine (duties_zero T c _).trans ?_
  show dutiesOf c (.dma (sendS t)) = {c}
  unfold dutiesOf sendS
  dsimp only
  rw [if_neg (by omega), if_pos (by omega)]
  ext d
  simp only [Finset.mem_filter, Finset.mem_univ, _root_.true_and, Finset.mem_singleton]
  constructor
  · exact fun h => h.1
  · exact fun h' => ⟨h', by omega⟩
theorem duties_recv (j : Dev nD) (h : j < c) : (Rd T).duties (recvCell c j.val) 0 = {j} := by
  refine (duties_zero T c _).trans ?_
  show dutiesOf c (.dma (recvS j.val)) = {j}
  have hj : j.val < 3 := by have hc : c.val < 4 := c.isLt; have : j.val < c.val := h; omega
  unfold dutiesOf recvS
  dsimp only
  rw [if_pos (by omega)]
  ext d
  simp only [Finset.mem_filter, Finset.mem_univ, _root_.true_and, Finset.mem_singleton]
  constructor
  · exact fun h => Fin.ext (by omega)
  · intro h'; subst h'; exact ⟨by omega, h⟩
/-- A send or receive cell nobody pays. -/
theorem duties_send_none (t : ℕ) (ht : t < 3) (h : ¬ c.val + t + 1 ≤ 3) (r : ℕ) : (Rd T).duties (sendCell c t) r = ∅ := by
  show (if r = 0 ∧ _ then dutiesOf c (.dma (sendS t)) else ∅) = ∅
  split
  · unfold dutiesOf sendS
    dsimp only
    rw [if_neg (by omega), if_pos (by omega)]
    refine Finset.filter_eq_empty_iff.mpr fun d _ hd => ?_
    omega
  · rfl
theorem duties_recv_none (j : ℕ) (hj : j < 3) (h : ¬ j < c.val) (r : ℕ) : (Rd T).duties (recvCell c j) r = ∅ := by
  show (if r = 0 ∧ _ then dutiesOf c (.dma (recvS j)) else ∅) = ∅
  split
  · unfold dutiesOf recvS
    dsimp only
    rw [if_pos (by omega)]
    refine Finset.filter_eq_empty_iff.mpr fun d _ hd => ?_
    have : d.val < c.val := hd.2
    omega
  · rfl
theorem duties_later (g : GSem nD τ sig) (r : ℕ) (hr : 1 ≤ r) : (Rd T).duties g r = ∅ :=
  if_neg fun h => by have := h.1; omega

theorem amount_bar (d : Dev nD) : (Rd T).amount (barCell c) 0 d = 1 := rfl
theorem amount_send (t : ℕ) (d : Dev nD) : (Rd T).amount (sendCell c t) 0 d = N := rfl
theorem amount_recv (j : ℕ) (d : Dev nD) : (Rd T).amount (recvCell c j) 0 d = N := rfl

theorem expect_bar : (Rd T).expect (barCell c) 0 = 3 := by
  unfold Schedule.expect Schedule.amountOf
  rw [duties_bar]
  simp only [amount_bar, Finset.sum_const, smul_eq_mul, mul_one]
  revert c; decide
theorem expect_send (t : ℕ) (ht : t < 3) (h : c.val + t + 1 ≤ 3) : (Rd T).expect (sendCell c t) 0 = N := by
  unfold Schedule.expect Schedule.amountOf; rw [duties_send T c t ht h, Finset.sum_singleton, amount_send]
theorem expect_recv (j : Dev nD) (h : j < c) : (Rd T).expect (recvCell c j.val) 0 = N := by
  unfold Schedule.expect Schedule.amountOf; rw [duties_recv T c j h, Finset.sum_singleton, amount_recv]

theorem payload_bar (d : Dev nD) : (Rd T).payload (barCell c) 0 d = give d c := rfl
theorem payload_send (t : ℕ) (ht : t < 3) (d : Dev nD) : (Rd T).payload (sendCell c t) 0 d = totPt c (shareOf t) (T c) := by
  show payOf T c d (.dma (sendS t)) = _
  unfold payOf sendS
  dsimp only
  rw [if_neg (by omega), show 13 + t % 3 - 13 = t from by omega]
theorem payload_recv (j : ℕ) (d : Dev nD) : (Rd T).payload (recvCell c j) 0 d = rowPt c d.val (rowsOf T) := by
  show payOf T c d (.dma (recvS j)) = _
  unfold payOf recvS
  dsimp only
  rw [if_pos (by omega)]

theorem nth_mem (t : ℕ) (ht : t < 3) : c ∈ (Finset.univ.erase (nth c t) : Finset (Dev nD)) := by
  refine Finset.mem_erase.mpr ⟨fun h => ?_, Finset.mem_univ _⟩
  have h' := congrArg Fin.val h
  have hc : c.val < 4 := c.isLt
  unfold nth at h'
  dsimp only at h'
  omega

theorem erase_eq (c : Dev nD) : (Finset.univ.erase c : Finset (Dev nD)) = [nth c 0, nth c 1, nth c 2].toFinset := by
  revert c; decide
theorem nth_nodup (c : Dev nD) : [nth c 0, nth c 1, nth c 2].Nodup := by revert c; decide

/-- The three others are the three places after c. -/
theorem rest_bar : bigSep ((Rd T).duties (barCell c) 0 \ ∅) (fun d => (Rd T).payload (barCell c) 0 d)
    ⊢ iprop(give (nth c 0) c ∗ give (nth c 1) c ∗ give (nth c 2) c) := by
  rw [Finset.sdiff_empty, duties_bar]
  refine Entails.of_eq ?_
  exact bigSep_eq_bigSepL_of_eq [nth c 0, nth c 1, nth c 2] (erase_eq c) (nth_nodup c) (fun d => (give d c : sProp 𝕄))
theorem rest_send (t : ℕ) (ht : t < 3) (h : c.val + t + 1 ≤ 3) :
    bigSep ((Rd T).duties (sendCell c t) 0 \ ∅) (fun d => (Rd T).payload (sendCell c t) 0 d) = totPt c (shareOf t) (T c) := by
  rw [Finset.sdiff_empty, duties_send T c t ht h, bigSep_singleton, payload_send T c t ht]
theorem rest_recv (j : Dev nD) (h : j < c) :
    bigSep ((Rd T).duties (recvCell c j.val) 0 \ ∅) (fun d => (Rd T).payload (recvCell c j.val) 0 d) = rowPt c j.val (rowsOf T) := by
  rw [Finset.sdiff_empty, duties_recv T c j h, bigSep_singleton, payload_recv T]

end Tables

/-! ## What a device owes; the levels -/

/-- The receive credit c owes for its send `t`, if that send happens. -/
def owe (c : Dev nD) (t : ℕ) : CellTallies nD τ sig Unit :=
  if c.val + t + 1 ≤ 3 then tallyAt (recvCell (nth c t) c.val) () N else 0
/-- What is owed before send `t`. -/
def owe2 (c : Dev nD) : CellTallies nD τ sig Unit := 0 + owe c 2
def owe1 (c : Dev nD) : CellTallies nD τ sig Unit := owe2 c + owe c 1
def owe0 (c : Dev nD) : CellTallies nD τ sig Unit := owe1 c + owe c 0
/-- At launch: the receive credits and a barrier unit to each other device. -/
def O₀ (c : Dev nD) : CellTallies nD τ sig Unit :=
  owe0 c + tallyAt (barCell (nth c 2)) () 1 + tallyAt (barCell (nth c 1)) () 1 + tallyAt (barCell (nth c 0)) () 1

def L (g : GSem nD τ sig) : Finset Unit := if g.1.2 = .tc then {()} else ∅
def lv (g : GSem nD τ sig) (_ : Unit) : ℕ :=
  match g.2 with
  | .reg _ => 1
  | .dma i => if 16 ≤ i.val then 2 + g.1.1.val else 0

theorem L_of_ne (g : GSem nD τ sig) (h : g.1.2 ≠ .tc) : L g = ∅ := if_neg h
theorem L_tc (c : Dev nD) (sm : SemLoc sig) : L ((c : Thread nD τ), sm) = {()} := if_pos rfl

theorem owe_cell (c : Dev nD) (t : ℕ) (g : GSem nD τ sig) (u : Unit) (h : 0 < owe c t g u) :
    ∃ e : Dev nD, c < e ∧ g = recvCell e c.val := by
  unfold owe at h
  split at h
  · rename_i hc
    rw [tallyAt_apply] at h
    by_cases hg : g = recvCell (nth c t) c.val ∧ u = ()
    · refine ⟨nth c t, ?_, hg.1⟩
      show c.val < (c.val + t + 1) % 4
      omega
    · rw [if_neg hg] at h; exact absurd h (Nat.lt_irrefl 0)
  · exact absurd h (Nat.lt_irrefl 0)
theorem owe0_cell (c : Dev nD) (g : GSem nD τ sig) (u : Unit) (h : 0 < owe0 c g u) :
    ∃ e : Dev nD, c < e ∧ g = recvCell e c.val := by
  have h' : 0 < 0 + owe c 2 g u + owe c 1 g u + owe c 0 g u := h
  rcases (by omega : 0 < owe c 2 g u ∨ 0 < owe c 1 g u ∨ 0 < owe c 0 g u) with h | h | h
  · exact owe_cell c 2 g u h
  · exact owe_cell c 1 g u h
  · exact owe_cell c 0 g u h

theorem lv_le (c : Dev nD) (sm : SemLoc sig) : lv ((c : Thread nD τ), sm) () ≤ 2 + c.val := by
  unfold lv
  rcases sm with s | s
  · show 1 ≤ 2 + c.val
    omega
  · dsimp only; split
    · exact Nat.le_refl _
    · exact Nat.zero_le _

/-- Every cell of its own a device may wait on while it owes its receive credits. -/
theorem mayWaits (c : Dev nD) : (levAts L lv : sProp 𝕄) ⊢ Transfers.MayWaits (c : Thread nD τ) () (owe0 c) :=
  Transfers.MayWaits.intro fun sm =>
    MayOwe.of_cut (L := L) (lev := lv) (2 + c.val) (fun p hp => by rw [Finset.mem_singleton.mp hp, L_tc]; exact Finset.mem_singleton_self _)
      (fun g u hg => by
        obtain ⟨e, -, rfl⟩ := owe0_cell c g u hg
        rw [L_tc]; exact Finset.mem_singleton_self _)
      (fun p hp => by rw [Finset.mem_singleton.mp hp]; exact lv_le c sm)
      (fun g u hg => by
        obtain ⟨e, he, rfl⟩ := owe0_cell c g u hg
        have he' : c.val < e.val := he
        have hl : lv (recvCell e c.val) u = 2 + e.val := by
          show (if 16 ≤ 16 + c.val % 3 then 2 + e.val else 0) = 2 + e.val
          exact if_pos (by omega)
        rw [hl]; omega)

end Cert.ScanProof
-- ==== Proof.Steps.lean ====
/-
  The single moves of the protocol, each at a symbolic device c and proved once: the signals at entry, the wait for the
  three others, a conditional send, a conditional receive wait, a conditional send drain. Where the program tests the
  device's place, the statement does too, so that the body can be run without splitting on the device.
-/
module

public import proofs.«01_k».proof.Proof.Proto
public import Idealize.ShloMosaic.Lib.Ring.Trips

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## One receive row as a view -/

/-- The row the copies write and the waits name, at whatever spelling of its offset. -/
abbrev rowV (o : Fin 3 → ℕ) (h : ∀ a, o a + S1x1x1024.size a ≤ S3x1x1024.size a) : Memref sig .tc .vmem S1x1024 .f32 :=
  (rM.slice (Rect.unit (s := S3x1x1024) o S1x1x1024.size h) (fun _ => rfl)).squeeze S1x1024 squeezes_S1x1x1024_S1x1024

theorem rowV_set (j : ℕ) (o : Fin 3 → ℕ) (ho : o = ![j, 0, 0]) (h : ∀ a, o a + S1x1x1024.size a ≤ S3x1x1024.size a) :
    (rowV o h).view.set = rowSet j := by
  subst ho
  refine (View.set_reshape _ _).trans ((View.set_slice_whole _ _).trans ?_)
  ext i
  rw [Rect.mem_set_unit]
  unfold rowSet
  rw [Finset.mem_filter]
  have h1 : (i 1).val < 1 := (i 1).isLt
  have h2 : (i 2).val < 1024 := (i 2).isLt
  constructor
  · intro hh
    have h0 := hh 0
    have e : (![j, 0, 0] : Fin 3 → ℕ) 0 = j := rfl
    have e' : S1x1x1024.size 0 = 1 := rfl
    rw [e, e'] at h0
    exact ⟨Finset.mem_univ _, by omega⟩
  · rintro ⟨-, hh⟩ a
    match a with
    | 0 => exact ⟨by show j ≤ _; omega, by show _ < j + 1; omega⟩
    | 1 => exact ⟨Nat.zero_le _, by show _ < 0 + 1; omega⟩
    | 2 => exact ⟨Nat.zero_le _, by show _ < 0 + 1024; omega⟩

/-- Element (0, k) of row j lies at (j, 0, k). -/
theorem rowV_emb (j : ℕ) (hj : j < 3) (o : Fin 3 → ℕ) (ho : o = ![j, 0, 0]) (h : ∀ a, o a + S1x1x1024.size a ≤ S3x1x1024.size a)
    (x : S1x1024.Idx) : (rowV o h).view.emb x = ix3 ⟨j, hj⟩ (0 : Fin 1) (x 1) := by
  subst ho
  have hx : Shape.reshapeEquiv squeezes_S1x1x1024_S1x1024.numel_eq x = Fin.cons ⟨0, Nat.one_pos⟩ x :=
    Shape.reshapeEquiv_cons_one _ x
  have h0 : (x 0).val < 1 := (x 0).isLt
  show (Rect.unit (s := S3x1x1024) ![j, 0, 0] S1x1x1024.size h).emb (Shape.reshapeEquiv squeezes_S1x1x1024_S1x1024.numel_eq x) = _
  rw [hx]
  funext a
  apply Fin.ext
  match a with
  | 0 => show j + 1 * 0 = j; omega
  | 1 => show 0 + 1 * (x 0).val = 0; omega
  | 2 => show 0 + 1 * (x 1).val = (x 1).val; omega

theorem rowV_write (c j : Dev nD) (hj : j.val < 3) (o : Fin 3 → ℕ) (ho : o = ![j.val, 0, 0])
    (h : ∀ a, o a + S1x1x1024.size a ≤ S3x1x1024.size a) (T : Dev nD → FVec F S1x1024 .f32)
    (fd : Buf (Elt F) ((rowV o h).view.loc (c : Thread nD τ))) :
    ((rowV o h).view.loc (c : Thread nD τ) ↦[(rowV o h).view.set]{fullShare}
        ((rowV o h).view.write (Elt F) fd (sM.view.read (Elt F) (T j)) Finset.univ) : sProp 𝕄)
      = rowPt c j.val (rowsOf T) := by
  show (rM.view.loc (c : Thread nD τ) ↦[(rowV o h).view.set]{fullShare} _ : sProp 𝕄) = _
  refine (pointsTo_congr (g := rowsOf T) fun i hi => ?_).trans (by rw [rowV_set j.val o ho h])
  obtain ⟨x, -, rfl⟩ := Finset.mem_map.mp hi
  refine (View.write_emb_of_mem (v := (rowV o h).view) fd _ (Finset.mem_univ x)).trans ?_
  rw [rowV_emb j.val hj o ho h x]
  show T j x = T ⟨j.val, _⟩ (ix2 0 (x 1))
  congr 1
  funext a
  match a with
  | 0 => exact Fin.ext (by have h0 : (x 0).val < 1 := (x 0).isLt; show (x 0).val = 0; omega)
  | 1 => rfl

theorem rowV_credit (o : Fin 3 → ℕ) (h : ∀ a, o a + S1x1x1024.size a ≤ S3x1x1024.size a) : (rowV o h).view.dmaCredit = N := rfl

/-! ## What is shared: the invariants -/

/-- The three send and three receive semaphores of a device. -/
def osem (k : Fin 6) : SemLoc sig := .dma ⟨13 + k.val, by
  have h : 13 + k.val < 19 := by have := k.isLt; omega
  exact h⟩

theorem osem_inj : Function.Injective osem := by
  intro a b h
  have h' : (⟨13 + a.val, _⟩ : DmaSem sig) = ⟨13 + b.val, _⟩ := SemLoc.dma.inj h
  exact Fin.ext (by have := congrArg Fin.val h'; dsimp only at this; omega)

def barEmb : Dev nD ↪ GSem nD τ sig := ⟨fun c => barCell c, fun _ _ h => congrArg (fun g : GSem nD τ sig => g.1.1) h⟩
def scEmb : Dev nD × Fin 6 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem sendCell_eq (c : Dev nD) (t : ℕ) (ht : t < 3) : sendCell c t = ((c : Thread nD τ), osem ⟨t, by omega⟩) := by
  have e : sendS t = ⟨13 + t, by
    have h : 13 + t < 19 := by omega
    exact h⟩ := Fin.ext (by show 13 + t % 3 = 13 + t; omega)
  show ((c : Thread nD τ), SemLoc.dma (sendS t)) = _
  rw [e]; rfl
theorem recvCell_eq (c : Dev nD) (j : ℕ) (hj : j < 3) : recvCell c j = ((c : Thread nD τ), osem ⟨3 + j, by omega⟩) := by
  have e : recvS j = ⟨13 + (3 + j), by
    have h : 13 + (3 + j) < 19 := by omega
    exact h⟩ := Fin.ext (by show 16 + j % 3 = 13 + (3 + j); omega)
  show ((c : Thread nD τ), SemLoc.dma (recvS j)) = _
  rw [e]; rfl

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 6) : ((c : Thread nD τ), osem k) ∈ (barCells ∪ scCells : Finset (GSem nD τ sig)) :=
  Finset.mem_union_right _ (Finset.mem_map_of_mem scEmb (Finset.mem_univ (c, k)))
theorem send_mem (c : Dev nD) (t : ℕ) (ht : t < 3) : sendCell c t ∈ (barCells ∪ scCells : Finset (GSem nD τ sig)) := by
  rw [sendCell_eq c t ht]; exact sc_mem c _
theorem recv_mem (c : Dev nD) (j : ℕ) (hj : j < 3) : recvCell c j ∈ (barCells ∪ scCells : Finset (GSem nD τ sig)) := by
  rw [recvCell_eq c j hj]; exact sc_mem c _

/-- What every device may consult: all cells' invariants, and that every barrier cell's round 0 is open. -/
def records (T : Dev nD → FVec F S1x1024 .f32) (κ : GSem nD τ sig → ℕ) : sProp 𝕄 :=
  iprop((bigSep (barCells ∪ scCells) fun g => cellInv ER (Rd T) (κ g) g) ∗ bigSep barCells fun g => reached ER g 0)

instance records_persistent (T : Dev nD → FVec F S1x1024 .f32) (κ : GSem nD τ sig → ℕ) : BI.Persistent (records T κ) := by
  unfold records; infer_instance

variable (T : Dev nD → FVec F S1x1024 .f32) (κ : GSem nD τ sig → ℕ) (c : Dev nD)

theorem inv_at {g : GSem nD τ sig} (hg : g ∈ (barCells ∪ scCells : Finset (GSem nD τ sig))) :
    records T κ ⊢ (cellInv ER (Rd T) (κ g) g : sProp 𝕄) := by
  have h : (bigSep (barCells ∪ scCells) fun g => (cellInv ER (Rd T) (κ g) g : sProp 𝕄)) ⊢ cellInv ER (Rd T) (κ g) g := bigSep_elim hg
  unfold records; iintro ⟨H, -⟩; iapply h $$ H
theorem reached_at : records T κ ⊢ (reached ER (barCell c) 0 : sProp 𝕄) := by
  have h : (bigSep barCells fun g => (reached ER g 0 : sProp 𝕄)) ⊢ reached ER (barCell c) 0 :=
    bigSep_elim (Finset.mem_map_of_mem barEmb (Finset.mem_univ c))
  unfold records; iintro ⟨-, H⟩; iapply h $$ H

/-! ## Splitting the receive rows -/

/-- A row c keeps: one no earlier device writes. -/
def mine (c : Dev nD) (j : ℕ) : sProp 𝕄 := if j < c.val then iprop(emp) else iprop(∃ f, rowPt c j f)
/-- A row c hands to device d, if d is earlier. -/
def lent (c d : Dev nD) : sProp 𝕄 := if d < c then iprop(∃ f, rowPt c d.val f) else iprop(emp)

theorem lent_of (d : Dev nD) (h : d < c) : (iprop(∃ f, rowPt c d.val f) : sProp 𝕄) ⊢ lent c d := by unfold lent; rw [if_pos h]
theorem lent_of_not (d : Dev nD) (h : ¬ d < c) : (iprop(emp) : sProp 𝕄) ⊢ lent c d := by unfold lent; rw [if_neg h]
theorem mine_of (j : ℕ) (h : ¬ j < c.val) : (iprop(∃ f, rowPt c j f) : sProp 𝕄) ⊢ mine c j := by unfold mine; rw [if_neg h]
theorem mine_of_not (j : ℕ) (h : j < c.val) : (iprop(emp) : sProp 𝕄) ⊢ mine c j := by unfold mine; rw [if_pos h]

theorem rowSet_disjoint {i j : ℕ} (h : i ≠ j) : Disjoint (rowSet i) (rowSet j) := by
  rw [Finset.disjoint_left]
  intro a ha hb
  exact h ((Finset.mem_filter.mp ha).2.symm.trans (Finset.mem_filter.mp hb).2)
theorem rowSet_univ : rowSet 0 ∪ (rowSet 1 ∪ rowSet 2) = Finset.univ := by
  ext a
  have h : (a 0).val < 3 := (a 0).isLt
  simp only [Finset.mem_union, rowSet, Finset.mem_filter, Finset.mem_univ, _root_.true_and, iff_true]
  generalize (a 0).val = v at h ⊢
  omega

theorem rows_split (f : Buf (Elt F) (rM.view.loc (c : Thread nD τ))) :
    (rM.view.loc (c : Thread nD τ) ↦{fullShare} f : sProp 𝕄) ⊢ iprop(rowPt c 0 f ∗ rowPt c 1 f ∗ rowPt c 2 f) := by
  show (rM.view.loc (c : Thread nD τ) ↦[Finset.univ]{fullShare} f : sProp 𝕄) ⊢ _
  have e : (rM.view.loc (c : Thread nD τ) ↦[Finset.univ]{fullShare} f : sProp 𝕄)
      = (rM.view.loc (c : Thread nD τ) ↦[rowSet 0 ∪ (rowSet 1 ∪ rowSet 2)]{fullShare} f : sProp 𝕄) := by rw [rowSet_univ]
  rw [e]
  iintro H
  ihave H' := ((pointsTo_union (by rw [Finset.disjoint_union_right]; exact ⟨rowSet_disjoint (by decide), rowSet_disjoint (by decide)⟩)).1) $$ H
  icases H' with ⟨H0, H12⟩
  ihave H'' := ((pointsTo_union (rowSet_disjoint (by decide))).1) $$ H12
  icases H'' with ⟨H1, H2⟩
  isplitl [H0]; · iexact H0
  isplitl [H1] <;> iassumption

theorem dev_cases (c : Dev nD) : c = 0 ∨ c = 1 ∨ c = 2 ∨ c = 3 := by revert c; decide

/-- The receive buffer split by owner-to-be: what c keeps, what the three others may write. -/
theorem rows_deal (f : Buf (Elt F) (rM.view.loc (c : Thread nD τ))) :
    (rM.view.loc (c : Thread nD τ) ↦{fullShare} f : sProp 𝕄)
      ⊢ iprop((mine c 0 ∗ mine c 1 ∗ mine c 2) ∗ (lent c (nth c 0) ∗ lent c (nth c 1) ∗ lent c (nth c 2))) := by
  have hany (j : ℕ) : (rowPt c j f : sProp 𝕄) ⊢ iprop(∃ f, rowPt c j f) := by iintro H; iexists f; iexact H
  have hk (j : ℕ) (hj : ¬ j < c.val) : (rowPt c j f : sProp 𝕄) ⊢ mine c j := (hany j).trans (mine_of c j hj)
  have hl (j : ℕ) (d : Dev nD) (e : d.val = j) (hd : d < c) : (rowPt c j f : sProp 𝕄) ⊢ lent c d := by
    subst e; exact (hany d.val).trans (lent_of c d hd)
  have hc := dev_cases c
  refine (rows_split c f).trans ?_
  iintro ⟨H0, H1, H2⟩
  rcases hc with rfl | rfl | rfl | rfl
  · isplitl
    · isplitl [H0]; · iapply (hk 0 (by decide)) $$ H0
      isplitl [H1]; · iapply (hk 1 (by decide)) $$ H1
      iapply (hk 2 (by decide)) $$ H2
    isplitr; · iapply (lent_of_not 0 (nth 0 0) (by decide)); iempintro
    isplitr; · iapply (lent_of_not 0 (nth 0 1) (by decide)); iempintro
    iapply (lent_of_not 0 (nth 0 2) (by decide)); iempintro
  · isplitl [H1 H2]
    · isplitr; · iapply (mine_of_not 1 0 (by decide)); iempintro
      isplitl [H1]; · iapply (hk 1 (by decide)) $$ H1
      iapply (hk 2 (by decide)) $$ H2
    isplitr; · iapply (lent_of_not 1 (nth 1 0) (by decide)); iempintro
    isplitr; · iapply (lent_of_not 1 (nth 1 1) (by decide)); iempintro
    iapply (hl 0 (nth 1 2) rfl (by decide)) $$ H0
  · isplitl [H2]
    · isplitr; · iapply (mine_of_not 2 0 (by decide)); iempintro
      isplitr; · iapply (mine_of_not 2 1 (by decide)); iempintro
      iapply (hk 2 (by decide)) $$ H2
    isplitr; · iapply (lent_of_not 2 (nth 2 0) (by decide)); iempintro
    isplitl [H0]; · iapply (hl 0 (nth 2 1) rfl (by decide)) $$ H0
    iapply (hl 1 (nth 2 2) rfl (by decide)) $$ H1
  · isplitr
    · isplitr; · iapply (mine_of_not 3 0 (by decide)); iempintro
      isplitr; · iapply (mine_of_not 3 1 (by decide)); iempintro
      iapply (mine_of_not 3 2 (by decide)); iempintro
    isplitl [H0]; · iapply (hl 0 (nth 3 0) rfl (by decide)) $$ H0
    isplitl [H1]; · iapply (hl 1 (nth 3 1) rfl (by decide)) $$ H1
    iapply (hl 2 (nth 3 2) rfl (by decide)) $$ H2

/-! ## The moves -/

theorem give_of (d : Dev nD) : iprop(lent c d ∗ reached ER (recvCell c d.val) 0) ⊢ (give c d : sProp 𝕄) := by
  unfold give lent
  by_cases h : d < c
  · rw [if_pos h, if_pos h]
  · rw [if_neg h, if_neg h]; iintro -; iempintro

/-- A signal at entry: what device `nth c t` may write of c's rows goes with it. -/
theorem signal_step {α : Type} (t : ℕ) (ht : t < 3) (dst : Dev nD) (hdst : dst = nth c t) (O : CellTallies nD τ sig Unit) (W : Waits sig Unit)
    (k : PUnit → Prog (TpuEff nD τ sig (Elt F) Λ₀ .tc) α) (Q : α → sProp 𝕄) :
    iprop(records T κ ∗ owes (c : Thread nD τ) (O + tallyAt (barCell (nth c t)) () 1) W ∗ dutyTok ER (barCell (nth c t)) 0 c
        ∗ lent c (nth c t) ∗ reached ER (recvCell c (nth c t).val) 0)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal (dst : Thread nD τ) barS 1) k) Q) := by
  subst hdst
  iintro ⟨#HR, HO, Ht, Hl, #Hr⟩ Hk
  iapply (Rounds.wp_signal 𝒱₀ ER (Rd T) (c : Thread nD τ) none (dst := (nth c t : Thread nD τ)) (sem := barS) (r := 0) (d := c)
      (κ := κ (barCell (nth c t))) (by rw [duties_bar]; exact nth_mem c t ht) (amount_bar T (nth c t) c) () O rfl) $$ [HO Ht Hl]
  · isplitr; · iapply (inv_at T κ (bar_mem (nth c t))) $$ HR
    isplitl [HO]; · iexact HO
    isplitl [Ht]; · iexact Ht
    isplitl [Hl]
    · rw [payload_bar]
      iapply (give_of c (nth c t))
      isplitl [Hl]; · iexact Hl
      iexact Hr
    iapply (reached_at T κ (nth c t)) $$ HR
  iexact Hk

/-- The wait for the three others: their rights to write come with it. -/
theorem bar_step {α : Type} (O : CellTallies nD τ sig Unit) (W : Waits sig Unit)
    (k : PUnit → Prog (TpuEff nD τ sig (Elt F) Λ₀ .tc) α) (Q : α → sProp 𝕄) :
    iprop(records T κ ∗ Transfers.MayWaits (c : Thread nD τ) () O ∗ owes (c : Thread nD τ) O W ∗ cred (tallyAt (barCell c) () 3) ∗ atPos ER (barCell c) 0 ∅ 0)
      ⊢ iprop(((∃ W', owes (c : Thread nD τ) O W') ∗ atPos ER (barCell c) 1 ∅ 0 ∗ give (nth c 0) c ∗ give (nth c 1) c ∗ give (nth c 2) c
            -∗ wp frame (wpE (defs₀ (F := F)) 𝒱₀ c none) Set.univ (k ⟨⟩) Q)
          -∗ wp frame (wpE (defs₀ (F := F)) 𝒱₀ c none) Set.univ (.op (.semWait barS 3) k) Q) := by
  iintro ⟨#HR, #Hmw, HO, Hc, Hat⟩ Hk
  iapply (Rounds.wp_wait_rest_token 𝒱₀ ER (Rd T) (c : Thread nD τ) none (κ := κ (barCell c))
      (wpE_semWait_eq 𝒱₀ (c : Thread nD τ) none Set.univ) (Set.mem_univ _) () (O := O) (W := W) (R := 0) (m := 0) (T := ∅)
      ((Nat.zero_add 3).trans (expect_bar T c).symm)) $$ [Hc HO Hat]
  · isplitr; · iapply (inv_at T κ (bar_mem c)) $$ HR
    isplitl [Hc]; · iexact Hc
    isplitl [HO]; · iexact HO
    isplitr; · iapply (Transfers.MayWaits.elim (SemLoc.reg barS)) $$ Hmw
    iexact Hat
  iintro ⟨HO, Hat, -, Hpay⟩
  ihave Hp := (rest_bar T c) $$ Hpay
  iapply Hk
  isplitl [HO]; · iexists _; iexact HO
  isplitl [Hat]; · iexact Hat
  iexact Hp

/-- After send `t`: the credit to wait with, or the share never lent. -/
def sent (c : Dev nD) (t : ℕ) : sProp 𝕄 :=
  if c.val + t + 1 ≤ 3 then cred (tallyAt (sendCell c t) () N) else totPt c (shareOf t) (T c)

/-- The copy to device `nth c t`. -/
theorem send_core {α : Type} (t : ℕ) (ht : t < 3) (h3 : c.val + t + 1 ≤ 3)
    (d : Dev nD) (hd : d = nth c t) (o : Fin 3 → ℕ) (ho : o = ![c.val, 0, 0])
    (hin : ∀ a, o a + S1x1x1024.size a ≤ S3x1x1024.size a) (sS : DmaSem sig) (hS : sS = sendS t) (sR : DmaSem sig) (hR : sR = recvS c.val)
    (w₁ : sM.view.WordExact) (w₂ : (rowV o hin).view.WordExact) (sc : (rowV o hin).view.ref.isScScratch = false)
    (ty : DmaTarget.Typed .vmem (SemLoc.dma sR) (.remote (Dev.tc d) (rowV o hin) (.dma sS) sc))
    (O : CellTallies nD τ sig Unit) (W : Waits sig Unit)
    (k : PUnit → Prog (TpuEff nD τ sig (Elt F) Λ₀ .tc) α) (Q : α → sProp 𝕄) :
    iprop(records T κ ∗ owes (c : Thread nD τ) (O + tallyAt (recvCell (nth c t) c.val) () N) W ∗ totPt c (shareOf t) (T c)
        ∗ dutyTok ER (sendCell c t) 0 c ∗ reached ER (sendCell c t) 0 ∗ dutyTok ER (recvCell (nth c t) c.val) 0 c
        ∗ (∃ f, rowPt (nth c t) c.val f) ∗ reached ER (recvCell (nth c t) c.val) 0)
      ⊢ iprop(((cred (tallyAt (sendCell c t) () N) ∗ owes (c : Thread nD τ) O W) -∗ wp frame (wpE (defs₀ (F := F)) 𝒱₀ c none) Set.univ (k ⟨⟩) Q)
          -∗ wp frame (wpE (defs₀ (F := F)) 𝒱₀ c none) Set.univ
            (.op (.enqueueDma sM (.remote (Dev.tc d) (rowV o hin) (.dma sS) sc) (.dma sR) w₁ w₂ ty) k) Q) := by
  subst hd hS hR
  have hc4 : c.val < 4 := c.isLt
  have hlt : c < nth c t := by show c.val < (c.val + t + 1) % 4; omega
  have hj : c.val < 3 := by omega
  iintro ⟨#HR, HO, Hs, HtS, #HrS, HtR, ⟨%fd, Hrow⟩, #HrR⟩ Hk
  iapply (Rounds.wp_send_pointsTo 𝒱₀ ER (Rd T) (c : Thread nD τ) none (c' := (nth c t : Thread nD τ)) (src := sM) (dst := rowV o hin)
      (sS := .dma (sendS t)) (sem := .dma (recvS c.val)) (q := shareOf t) (fs := T c) (κ₁ := κ (sendCell c t)) (κ₂ := κ (recvCell (nth c t) c.val))
      (r₁ := 0) (r₂ := 0) (d₁ := c) (d₂ := c) (fd := fd)
      (by rw [duties_send T c t ht h3]; exact Finset.mem_singleton_self _) (by rw [duties_recv T (nth c t) c hlt]; exact Finset.mem_singleton_self _)
      () () N rfl (amount_send T c t c) (amount_recv T (nth c t) c.val c) O rfl (W := W)
      (by rw [payload_send T c t ht])
      (by rw [payload_recv T, rowV_write (nth c t) c hj o ho hin T fd])) $$ [HO Hs HtS HtR Hrow]
  · isplitr; · iapply (inv_at T κ (send_mem c t ht)) $$ HR
    isplitr; · iapply (inv_at T κ (recv_mem (nth c t) c.val hj)) $$ HR
    isplitl [Hs]; · iexact Hs
    isplitl [Hrow]
    · rw [rowV_set c.val o ho hin]; iexact Hrow
    isplitl [HO]; · iexact HO
    isplitl [HtS]; · iexact HtS
    isplitr; · iexact HrS
    isplitl [HtR]; · iexact HtR
    iexact HrR
  iexact Hk

/-- A send, if the device has a device `t + 1` after it: `P` is what follows in either case. -/
theorem send_step {α : Type} (t : ℕ) (ht : t < 3) (C : Prop) [dec : Decidable C] (hC : C ↔ c.val + t + 1 ≤ 3)
    (dst : C → Dev nD) (hdst : ∀ h, dst h = nth c t) (o : Fin 3 → ℕ) (ho : o = ![c.val, 0, 0])
    (hin : C → ∀ a, o a + S1x1x1024.size a ≤ S3x1x1024.size a) (sS : DmaSem sig) (hS : sS = sendS t) (sR : C → DmaSem sig)
    (hR : ∀ h, sR h = recvS c.val)
    (w₁ : sM.view.WordExact) (w₂ : ∀ h, (rowV o (hin h)).view.WordExact)
    (sc : ∀ h : C, (rowV o (hin h)).view.ref.isScScratch = false)
    (ty : ∀ h : C, DmaTarget.Typed .vmem (SemLoc.dma (sR h)) (.remote (Dev.tc (dst h)) (rowV o (hin h)) (.dma sS) (sc h)))
    (O : CellTallies nD τ sig Unit) (W : Waits sig Unit)
    (P : Prog (TpuEff nD τ sig (Elt F) Λ₀ .tc) α) (Q : α → sProp 𝕄) :
    iprop(records T κ ∗ owes (c : Thread nD τ) (O + owe c t) W ∗ totPt c (shareOf t) (T c)
        ∗ dutyTok ER (sendCell c t) 0 c ∗ reached ER (sendCell c t) 0 ∗ dutyTok ER (recvCell (nth c t) c.val) 0 c ∗ give (nth c t) c)
      ⊢ iprop(((owes (c : Thread nD τ) O W ∗ sent T c t) -∗ wp frame (wpE (defs₀ (F := F)) 𝒱₀ c none) Set.univ P Q)
          -∗ wp frame (wpE (defs₀ (F := F)) 𝒱₀ c none) Set.univ
            (@dite _ C dec (fun h => Prog.lift (.enqueueDma sM (.remote (Dev.tc (dst h)) (rowV o (hin h)) (.dma sS) (sc h)) (.dma (sR h)) w₁ (w₂ h) (ty h))
              >>= fun _ => P) (fun _ => P)) Q) := by
  have hc4 : c.val < 4 := c.isLt
  subst hS
  by_cases h : C
  · have h3 := hC.mp h
    have hlt : c < nth c t := by show c.val < (c.val + t + 1) % 4; omega
    have hj : c.val < 3 := by omega
    rw [dif_pos h]
    unfold sent owe give
    rw [if_pos h3, if_pos h3, if_pos hlt]
    iintro ⟨#HR, HO, Hs, HtS, #HrS, HtR, Hrow, #HrR⟩ Hk
    iapply (send_core T κ c t ht h3 (dst h) (hdst h) o ho (hin h) (sendS t) rfl (sR h) (hR h) w₁ (w₂ h) (sc h) (ty h) O W (fun _ => P) Q) $$ [HO Hs HtS HtR Hrow]
    · isplitr; · iexact HR
      isplitl [HO]; · iexact HO
      isplitl [Hs]; · iexact Hs
      isplitl [HtS]; · iexact HtS
      isplitr; · iexact HrS
      isplitl [HtR]; · iexact HtR
      isplitl [Hrow]; · iexact Hrow
      iexact HrR
    iintro ⟨Hc, HO⟩
    iapply Hk
    isplitl [HO] <;> iassumption
  · have h3 : ¬ c.val + t + 1 ≤ 3 := fun h' => h (hC.mpr h')
    rw [dif_neg h]
    unfold sent owe
    rw [if_neg h3, if_neg h3, add_zero]
    iintro ⟨-, HO, Hs, -⟩ Hk
    iapply Hk
    isplitl [HO] <;> iassumption

/-- The credit device c was dealt for its receive cell j. -/
def credR (c : Dev nD) (j : ℕ) : sProp 𝕄 :=
  if j < c.val then cred (tallyAt (recvCell c j) () N) else iprop(emp)

/-- Receive row j after its wait: device j's total if device j is earlier, anything otherwise. -/
def got (c : Dev nD) (j : ℕ) : sProp 𝕄 :=
  iprop(∃ f, ⌜j < c.val → f = rowsOf T⌝ ∗ rowPt c j f)
/-- A cell whose round has been consumed, or that never has one. -/
def spent (g : GSem nD τ sig) : sProp 𝕄 := iprop(∃ R, ⌜∀ r, R ≤ r → (Rd T).duties g r = ∅⌝ ∗ atPos ER g R ∅ 0)

theorem spent_close {g : GSem nD τ sig} (hg : g ∈ (barCells ∪ scCells : Finset (GSem nD τ sig))) :
    iprop(records T κ ∗ spent T g) ⊢ (|={Set.univ}=> semVal g 0 : sProp 𝕄) := by
  unfold spent
  iintro ⟨#HR, ⟨%R, %h, Hat⟩⟩
  iapply (Rounds.cell_close ER (Rd T) (κ := κ g) (Set.mem_univ _) id h)
  isplitr; · iapply (inv_at T κ hg) $$ HR
  iexact Hat

/-- The wait for device j's total, if device j is earlier. -/
theorem recv_step {α : Type} (j : ℕ) (hj : j < 3) (C : Prop) [dec : Decidable C] (hC : C ↔ j < c.val)
    {sp sp' : Space} {s s' : Shape} {e e' : EltTy} (src : Memref sig .tc sp' s' e') (dst : Memref sig .tc sp s e)
    (sm : DmaSem sig) (hS : sm = recvS j) (hN : dst.view.dmaCredit = N) (w₁ : src.view.WordExact) (w₂ : dst.view.WordExact)
    (P : Prog (TpuEff nD τ sig (Elt F) Λ₀ .tc) α) (Q : α → sProp 𝕄) :
    iprop(records T κ ∗ (∃ W, owes (c : Thread nD τ) (0 : CellTallies nD τ sig Unit) W) ∗ credR c j ∗ mine c j ∗ atPos ER (recvCell c j) 0 ∅ 0)
      ⊢ iprop((((∃ W, owes (c : Thread nD τ) (0 : CellTallies nD τ sig Unit) W) ∗ got T c j ∗ spent T (recvCell c j))
            -∗ wp frame (wpE (defs₀ (F := F)) 𝒱₀ c none) Set.univ P Q)
          -∗ wp frame (wpE (defs₀ (F := F)) 𝒱₀ c none) Set.univ
            (@dite _ C dec (fun _ => Prog.lift (.waitDma2 sm src dst w₁ w₂) >>= fun _ => P) (fun _ => P)) Q) := by
  subst hS
  by_cases h : C
  · have h3 := hC.mp h
    have hc4 : c.val < 4 := c.isLt
    let e : Dev nD := ⟨j, Nat.lt_trans hj (by decide)⟩
    have he : e < c := h3
    rw [dif_pos h]
    unfold credR mine
    rw [if_pos h3, if_pos h3]
    iintro ⟨#HR, ⟨%W, HO⟩, Hc, -, Hat⟩ Hk
    iapply (Rounds.wp_wait_rest_token 𝒱₀ ER (Rd T) (c : Thread nD τ) none (κ := κ (recvCell c j))
      (wpE_waitDma2_eq (src := src) (dst := dst) 𝒱₀ (c : Thread nD τ) none Set.univ) (Set.mem_univ _) () (O := 0) (W := W) (R := 0) (m := 0) (T := ∅)
      ((Nat.zero_add _).trans (hN.trans (expect_recv T c e he).symm))) $$ [Hc HO Hat]
    · isplitr; · iapply (inv_at T κ (recv_mem c j hj)) $$ HR
      isplitl [Hc]; · rw [hN]; iexact Hc
      isplitl [HO]; · iexact HO
      isplitr; · rw [MayWait_zero]; iempintro
      iexact Hat
    iintro ⟨HO, Hat, -, Hpay⟩
    ihave Hp := (Entails.of_eq (rest_recv T c e he)) $$ Hpay
    iapply Hk
    isplitl [HO]; · iexists _; iexact HO
    isplitl [Hp]
    · unfold got; iexists (rowsOf T)
      isplitr; · ipureintro; exact fun _ => rfl
      iexact Hp
    unfold spent; iexists 1
    isplitr; · ipureintro; exact fun r hr => duties_later T _ r hr
    iexact Hat
  · have h3 : ¬ j < c.val := fun h' => h (hC.mpr h')
    rw [dif_neg h]
    unfold credR mine
    rw [if_neg h3, if_neg h3]
    iintro ⟨-, HO, -, ⟨%f, Hr⟩, Hat⟩ Hk
    iapply Hk
    isplitl [HO]; · iexact HO
    isplitl [Hr]
    · unfold got; iexists f
      isplitr; · ipureintro; exact fun h' => absurd h' h3
      iexact Hr
    unfold spent; iexists 0
    isplitr; · ipureintro; exact fun r _ => duties_recv_none T c j hj h3 r
    iexact Hat

/-- The wait for the own send `t`, if it happened. -/
theorem drain_step {α : Type} (t : ℕ) (ht : t < 3) (C : Prop) [dec : Decidable C] (hC : C ↔ c.val + t + 1 ≤ 3)
    {sp sp' : Space} {s s' : Shape} {e e' : EltTy} (src : C → Memref sig .tc sp' s' e') (dst : Memref sig .tc sp s e)
    (sm : DmaSem sig) (hS : sm = sendS t) (hN : dst.view.dmaCredit = N) (w₁ : ∀ h, (src h).view.WordExact) (w₂ : dst.view.WordExact)
    (P : Prog (TpuEff nD τ sig (Elt F) Λ₀ .tc) α) (Q : α → sProp 𝕄) :
    iprop(records T κ ∗ (∃ W, owes (c : Thread nD τ) (0 : CellTallies nD τ sig Unit) W) ∗ sent T c t ∗ atPos ER (sendCell c t) 0 ∅ 0)
      ⊢ iprop((((∃ W, owes (c : Thread nD τ) (0 : CellTallies nD τ sig Unit) W) ∗ totPt c (shareOf t) (T c) ∗ spent T (sendCell c t))
            -∗ wp frame (wpE (defs₀ (F := F)) 𝒱₀ c none) Set.univ P Q)
          -∗ wp frame (wpE (defs₀ (F := F)) 𝒱₀ c none) Set.univ
            (@dite _ C dec (fun h => Prog.lift (.waitDma2 sm (src h) dst (w₁ h) w₂) >>= fun _ => P) (fun _ => P)) Q) := by
  subst hS
  by_cases h : C
  · have h3 := hC.mp h
    rw [dif_pos h]
    unfold sent
    rw [if_pos h3]
    iintro ⟨#HR, ⟨%W, HO⟩, Hc, Hat⟩ Hk
    iapply (Rounds.wp_wait_rest_token 𝒱₀ ER (Rd T) (c : Thread nD τ) none (κ := κ (sendCell c t))
      (wpE_waitDma2_eq (src := src h) (dst := dst) 𝒱₀ (c : Thread nD τ) none Set.univ) (Set.mem_univ _) () (O := 0) (W := W) (R := 0) (m := 0) (T := ∅)
      ((Nat.zero_add _).trans (hN.trans (expect_send T c t ht h3).symm))) $$ [Hc HO Hat]
    · isplitr; · iapply (inv_at T κ (send_mem c t ht)) $$ HR
      isplitl [Hc]; · rw [hN]; iexact Hc
      isplitl [HO]; · iexact HO
      isplitr; · rw [MayWait_zero]; iempintro
      iexact Hat
    iintro ⟨HO, Hat, -, Hpay⟩
    ihave Hp := (Entails.of_eq (rest_send T c t ht h3)) $$ Hpay
    iapply Hk
    isplitl [HO]; · iexists _; iexact HO
    isplitl [Hp]; · iexact Hp
    unfold spent; iexists 1
    isplitr; · ipureintro; exact fun r hr => duties_later T _ r hr
    iexact Hat
  · have h3 : ¬ c.val + t + 1 ≤ 3 := fun h' => h (hC.mpr h')
    rw [dif_neg h]
    unfold sent
    rw [if_neg h3]
    iintro ⟨-, HO, Hs, Hat⟩ Hk
    iapply Hk
    isplitl [HO]; · iexact HO
    isplitl [Hs]; · iexact Hs
    unfold spent; iexists 0
    isplitr; · ipureintro; exact fun r _ => duties_send_none T c t ht h3 r
    iexact Hat

theorem bar_spent : atPos ER (barCell c) 1 ∅ 0 ⊢ (spent T (barCell c) : sProp 𝕄) := by
  unfold spent
  iintro H; iexists 1
  isplitr; · ipureintro; exact fun r hr => duties_later T _ r hr
  iexact H

/-! ## Joining what was split -/

theorem rows_join :
    iprop(got T c 0 ∗ got T c 1 ∗ got T c 2)
      ⊢ (iprop(∃ f, ⌜∀ i : S3x1x1024.Idx, (i 0).val < c.val → f i = rowsOf T i⌝ ∗ (rM.view.loc (c : Thread nD τ) ↦{fullShare} f)) : sProp 𝕄) := by
  unfold got
  iintro ⟨⟨%f0, %h0, H0⟩, ⟨%f1, %h1, H1⟩, ⟨%f2, %h2, H2⟩⟩
  let g : Buf (Elt F) (rM.view.loc (c : Thread nD τ)) := fun i : S3x1x1024.Idx => if (i 0).val = 0 then f0 i else if (i 0).val = 1 then f1 i else f2 i
  have e0 : (rowPt c 0 f0 : sProp 𝕄) = rowPt c 0 g := pointsTo_congr fun i hi => by
    have h := (Finset.mem_filter.mp hi).2
    exact (if_pos h).symm
  have e1 : (rowPt c 1 f1 : sProp 𝕄) = rowPt c 1 g := pointsTo_congr fun i hi => by
    have h := (Finset.mem_filter.mp hi).2
    exact ((if_neg (by omega)).trans (if_pos h)).symm
  have e2 : (rowPt c 2 f2 : sProp 𝕄) = rowPt c 2 g := pointsTo_congr fun i hi => by
    have h := (Finset.mem_filter.mp hi).2
    exact ((if_neg (by omega)).trans (if_neg (by omega))).symm
  have hj : iprop(rowPt c 0 g ∗ rowPt c 1 g ∗ rowPt c 2 g) ⊢ (rM.view.loc (c : Thread nD τ) ↦{fullShare} g : sProp 𝕄) := by
    show _ ⊢ (rM.view.loc (c : Thread nD τ) ↦[Finset.univ]{fullShare} g : sProp 𝕄)
    rw [← rowSet_univ]
    exact (sep_mono_right (pointsTo_union (rowSet_disjoint (by decide))).2).trans
      (pointsTo_union (by rw [Finset.disjoint_union_right]; exact ⟨rowSet_disjoint (by decide), rowSet_disjoint (by decide)⟩)).2
  iexists g
  isplitr
  · ipureintro
    intro i hi
    show (if (i 0).val = 0 then f0 i else if (i 0).val = 1 then f1 i else f2 i) = _
    have hi3 : (i 0).val < 3 := (i 0).isLt
    by_cases a0 : (i 0).val = 0
    · rw [if_pos a0, h0 (by omega)]
    · by_cases a1 : (i 0).val = 1
      · rw [if_neg a0, if_pos a1, h1 (by omega)]
      · rw [if_neg a0, if_neg a1, h2 (by omega)]
  iapply hj
  isplitl [H0]; · iapply (Entails.of_eq e0) $$ H0
  isplitl [H1]; · iapply (Entails.of_eq e1) $$ H1
  iapply (Entails.of_eq e2) $$ H2

/-- The total buffer as the three shares the sends are lent. -/
theorem tot_split (f : Buf (Elt F) (sM.view.loc (c : Thread nD τ))) :
    (sM.view.loc (c : Thread nD τ) ↦{fullShare} f : sProp 𝕄)
      ⊣⊢ iprop(totPt c (shareOf 0) f ∗ totPt c (shareOf 1) f ∗ totPt c (shareOf 2) f) := by
  have e : (sM.view.loc (c : Thread nD τ) ↦{fullShare} f : sProp 𝕄) = totPt c fullShare f :=
    congrArg (fun I => (sM.view.loc (c : Thread nD τ) ↦[I]{fullShare} f : sProp 𝕄)) (View.set_whole (sig := sig) (κ := .tc) cc0_scratch2).symm
  rw [e]
  exact Ring.pointsTo_thirds fullShare f

end Cert.ScanProof
-- ==== Proof.Values.lean ====
/-
  What the kernel computes on one device, as a recursion over its thirty-two chunks of 256 rows, and the few facts that
  read the executor's record of buffer writes as that recursion: a load from the slot an input copy filled is a run of
  rows of the argument, a load from another slot ignores the copy, an output copy carries the block last stored in its slot.
-/
module

public import proofs.«01_k».proof.Proof.Steps
public import Idealize.ShloMosaic.Lib.Writes
public import Idealize.ShloMosaic.Lib.WritesUnit
public import Idealize.ShloMosaic.Lib.ValueLayout
public import Idealize.ShloMosaic.Lib.VecWindow

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The recursion -/

/-- The argument of one device. -/
abbrev Arg (F : FTy → Type) : Type := S8192x1024.Idx → F .f32

/-- The 256 rows of the argument from row r on, as the kernel loads them. -/
def blkAt (fx : Arg F) (r : ℕ) : Vec F S1x256x1024 .f32 :=
  fun i => fx (ix2 ⟨(r + (i 1).val) % 8192, Nat.mod_lt _ (by decide)⟩ (i 2))

/-- One chunk's running sums: the lower triangle of ones times the chunk, and the carried row added to every row. -/
def stepVal (carry : FVec F S1x1024 .f32) (blk : Vec F S1x256x1024 .f32) : FVec F S256x1024 .f32 :=
  addf (matmul dot_S256x256_S256x1024_S256x1024_1_0_0_1_n_n none (k0_pay1 (F := F))
      (truncf .bf16 (shapeCast S256x1024 blk shapeCasts_S1x256x1024_S256x1024) bitsLt_bf16_f32)
      (constant S256x1024 .f32 0x00000000#32))
    (broadcastTo S256x1024 carry broadcasts_S1x1024_S256x1024)

/-- The last row of a chunk, carried to the next. -/
def lastRow (x : FVec F S256x1024 .f32) : FVec F S1x1024 .f32 :=
  extractStridedSlice S1x1024 ![255, 0] x slices_S256x1024_o255_0_S1x1024

/-- The row carried into the first chunk. -/
def zeroRow : FVec F S1x1024 .f32 := broadcast S1x1024 (Scalar.ofBits .f32 0x00000000#32)

/-- The running sums of chunk k. -/
def chunk (fx : Arg F) : ℕ → FVec F S256x1024 .f32
  | 0 => stepVal zeroRow (blkAt fx 0)
  | k + 1 => stepVal (lastRow (chunk fx k)) (blkAt fx (256 * (k + 1)))

/-- The block of the output that chunk k writes. -/
def outBlk (fx : Arg F) (k : ℕ) : FVec F S256x1024 .bf16 := truncf .bf16 (chunk fx k) bitsLt_bf16_f32

/-- The device's column totals, as sent. -/
def total (fx : Arg F) : FVec F S1x1024 .f32 := k0_pay87 (chunk fx 31)

/-- The device's output. -/
def outVal (fx : Arg F) : S8192x1024.Idx → F .bf16 :=
  fun i => outBlk fx ((i 0).val / 256) (ix2 ⟨(i 0).val % 256, Nat.mod_lt _ (by decide)⟩ (i 1))

/-! ## Reading the record of writes -/

/-- Slot s of the input buffers, as the copies name it. -/
abbrev slotV (s : ℕ) (h : ∀ a, (![s, 0, 0] : Fin 3 → ℕ) a + S1x1024x1024.size a ≤ S4x1024x1024.size a) :
    Memref sig .tc .vmem S1024x1024 .f32 :=
  (bM.slice (Rect.unit (s := S4x1024x1024) ![s, 0, 0] S1x1024x1024.size h) (fun _ => rfl)).squeeze S1024x1024
    squeezes_S1x1024x1024_S1024x1024

theorem slotV_emb (s : ℕ) (hs : s < 4) (h : ∀ a, (![s, 0, 0] : Fin 3 → ℕ) a + S1x1024x1024.size a ≤ S4x1024x1024.size a)
    (x : S1024x1024.Idx) : (slotV s h).view.emb x = ix3 ⟨s, hs⟩ (x 0) (x 1) := by
  have hx : Shape.reshapeEquiv squeezes_S1x1024x1024_S1024x1024.numel_eq x = Fin.cons ⟨0, Nat.one_pos⟩ x :=
    Shape.reshapeEquiv_cons_one _ x
  show (Rect.unit (s := S4x1024x1024) ![s, 0, 0] S1x1024x1024.size h).emb
    (Shape.reshapeEquiv squeezes_S1x1024x1024_S1024x1024.numel_eq x) = _
  rw [hx]
  funext a
  apply Fin.ext
  match a with
  | 0 => show s + 1 * 0 = s; omega
  | 1 => show 0 + 1 * (x 0).val = (x 0).val; omega
  | 2 => show 0 + 1 * (x 1).val = (x 1).val; omega

/-- A load from the slot an input copy just filled reads rows of the argument. -/
theorem load_hit (s o R : ℕ) (h1 : ∀ a, (![s, 0, 0] : Fin 3 → ℕ) a + S1x1024x1024.size a ≤ S4x1024x1024.size a)
    (h2 : ∀ a, (![s, o, 0] : Fin 3 → ℕ) a + S1x256x1024.size a ≤ S4x1024x1024.size a)
    (h3 : ∀ a, (![R, 0] : Fin 2 → ℕ) a + S1024x1024.size a ≤ S8192x1024.size a) (fx : Arg F)
    (fb : S4x1024x1024.Idx → F .f32) :
    View.readAt (Elt F) bM.view (Rect.unit (s := S4x1024x1024) ![s, o, 0] S1x256x1024.size h2).toLoadRect
        (View.write (Elt F) (slotV s h1).view fb
          (ReadAs.same.apply
            (View.read (Elt F) (xM.slice (Rect.unit (s := S8192x1024) ![R, 0] S1024x1024.size h3) (fun _ => rfl)).view fx))
          Finset.univ)
      = blkAt fx (R + o) := by
  have hs : s + 1 ≤ 4 := h1 0
  have ho : o + 256 ≤ 1024 := h2 1
  have hR : R + 1024 ≤ 8192 := h3 0
  funext i
  have i0 : (i 0).val < 1 := (i 0).isLt
  have i1 : (i 1).val < 256 := (i 1).isLt
  let x : S1024x1024.Idx := ix2 ⟨o + (i 1).val, by omega⟩ (i 2)
  have e : (Rect.unit (s := S4x1024x1024) ![s, o, 0] S1x256x1024.size h2).emb i = (slotV s h1).view.emb x := by
    rw [slotV_emb s hs h1 x]
    funext a
    apply Fin.ext
    match a with
    | 0 => show s + 1 * (i 0).val = s; omega
    | 1 => show o + 1 * (i 1).val = o + (i 1).val; omega
    | 2 => show 0 + 1 * (i 2).val = (i 2).val; omega
  show View.write (Elt F) (slotV s h1).view fb _ Finset.univ
    ((Rect.unit (s := S4x1024x1024) ![s, o, 0] S1x256x1024.size h2).emb i) = _
  rw [e]
  refine (View.write_emb_of_mem (Val := Elt F) (v := (slotV s h1).view) fb _ (Finset.mem_univ x)).trans ?_
  show fx ((Rect.unit (s := S8192x1024) ![R, 0] S1024x1024.size h3).emb x) = fx _
  congr 1
  funext a
  apply Fin.ext
  match a with
  | 0 => show R + 1 * (o + (i 1).val) = (R + o + (i 1).val) % 8192; omega
  | 1 => show 0 + 1 * (i 2).val = (i 2).val; omega

/-- A load from one slot ignores what was copied into another. -/
theorem load_miss (s o s' : ℕ) (hne : s ≠ s')
    (h1 : ∀ a, (![s', 0, 0] : Fin 3 → ℕ) a + S1x1024x1024.size a ≤ S4x1024x1024.size a)
    (h2 : ∀ a, (![s, o, 0] : Fin 3 → ℕ) a + S1x256x1024.size a ≤ S4x1024x1024.size a)
    (fb : S4x1024x1024.Idx → F .f32) (w : S1024x1024.Idx → F .f32) :
    View.readAt (Elt F) bM.view (Rect.unit (s := S4x1024x1024) ![s, o, 0] S1x256x1024.size h2).toLoadRect
        (View.write (Elt F) (slotV s' h1).view fb w Finset.univ)
      = View.readAt (Elt F) bM.view (Rect.unit (s := S4x1024x1024) ![s, o, 0] S1x256x1024.size h2).toLoadRect fb := by
  have hs : s' + 1 ≤ 4 := h1 0
  funext i
  have i0 : (i 0).val < 1 := (i 0).isLt
  show View.write (Elt F) (slotV s' h1).view fb w Finset.univ
    ((Rect.unit (s := S4x1024x1024) ![s, o, 0] S1x256x1024.size h2).emb i)
      = fb ((Rect.unit (s := S4x1024x1024) ![s, o, 0] S1x256x1024.size h2).emb i)
  refine View.write_of_not_mem (Val := Elt F) (v := (slotV s' h1).view) fb w Finset.univ ?_
  intro hm
  obtain ⟨x, -, hx⟩ := Finset.mem_map.mp hm
  rw [slotV_emb s' hs h1 x] at hx
  have := congrArg (fun j : S4x1024x1024.Idx => (j 0).val) hx
  have : s' = s + 1 * (i 0).val := this
  omega

/-- Slot s of the output stage, as the copies name it. -/
abbrev stageV (s : ℕ) (h : ∀ a, (![s, 0, 0] : Fin 3 → ℕ) a + S1x256x1024.size a ≤ S8x256x1024.size a) :
    Memref sig .tc .vmem S256x1024 .bf16 :=
  (gM.slice (Rect.unit (s := S8x256x1024) ![s, 0, 0] S1x256x1024.size h) (fun _ => rfl)).squeeze S256x1024
    squeezes_S1x256x1024_S256x1024

theorem stageV_emb (s : ℕ) (h : ∀ a, (![s, 0, 0] : Fin 3 → ℕ) a + S1x256x1024.size a ≤ S8x256x1024.size a)
    (x : S256x1024.Idx) : (stageV s h).view.emb x
      = (Rect.unit (s := S8x256x1024) ![s, 0, 0] S1x256x1024.size h).emb (ix3 (0 : Fin 1) (x 0) (x 1)) := by
  have hx : Shape.reshapeEquiv squeezes_S1x256x1024_S256x1024.numel_eq x = Fin.cons ⟨0, Nat.one_pos⟩ x :=
    Shape.reshapeEquiv_cons_one _ x
  show (Rect.unit (s := S8x256x1024) ![s, 0, 0] S1x256x1024.size h).emb
    (Shape.reshapeEquiv squeezes_S1x256x1024_S256x1024.numel_eq x) = _
  rw [hx]
  funext a
  apply Fin.ext
  match a with
  | 0 => rfl
  | 1 => rfl
  | 2 => rfl

/-- An output copy out of the slot just stored carries the block stored. -/
theorem stage_read (s : ℕ) (h1 h2 : ∀ a, (![s, 0, 0] : Fin 3 → ℕ) a + S1x256x1024.size a ≤ S8x256x1024.size a)
    (fg : S8x256x1024.Idx → F .bf16) (w : FVec F S256x1024 .bf16) (L : List (View.Piece (Elt F) S8x256x1024 .bf16)) :
    ReadAs.same.apply (View.read (Elt F) (stageV s h1).view
      (gM.view.writes (Elt F) fg
        (⟨Rect.unit (s := S8x256x1024) ![s, 0, 0] S1x256x1024.size h2, shapeCast S1x256x1024 w shapeCasts_S256x1024_S1x256x1024⟩ :: L)))
      = w := by
  funext x
  have h := View.read_writes_cons_emb (Val := Elt F) gM.view fg (Rect.unit (s := S8x256x1024) ![s, 0, 0] S1x256x1024.size h2)
    (shapeCast S1x256x1024 w shapeCasts_S256x1024_S1x256x1024) L (ix3 (0 : Fin 1) (x 0) (x 1))
  have hw : shapeCast S1x256x1024 w shapeCasts_S256x1024_S1x256x1024 (ix3 (0 : Fin 1) (x 0) (x 1)) = w (ix2 (x 0) (x 1)) :=
    shapeCast_ab_1ab_apply w _ (0 : Fin 1) (x 0) (x 1)
  have hi : (ix2 (x 0) (x 1) : S256x1024.Idx) = x := by
    funext a
    match a with
    | 0 => rfl
    | 1 => rfl
  rw [hw, hi, View.read_apply] at h
  refine Eq.trans ?_ h
  show View.read (Elt F) (stageV s h1).view _ x = _
  rw [View.read_apply, stageV_emb s h1 x]
  rfl

theorem tile_inb (n : ℕ) (h : n + 1 ≤ 32) :
    ∀ a, (![256 * n, 0] : Fin 2 → ℕ) a + S256x1024.size a ≤ S8192x1024.size a := fun a => match a with
  | 0 => show 256 * n + 256 ≤ 8192 by omega
  | 1 => show 0 + 1024 ≤ 1024 by omega

/-- The list of the first n output copies, the last first. -/
def tiles (fx : Arg F) : ∀ n : ℕ, n ≤ 32 → List (View.Piece (Elt F) S8192x1024 .bf16)
  | 0, _ => []
  | n + 1, h => ⟨Rect.unit (s := S8192x1024) ![256 * n, 0] S256x1024.size (tile_inb n h), outBlk fx n⟩
      :: tiles fx n (Nat.le_of_succ_le h)

theorem read_tiles_lt (fx : Arg F) (fo : S8192x1024.Idx → F .bf16) :
    ∀ (n : ℕ) (h : n ≤ 32) (i : S8192x1024.Idx), (i 0).val < 256 * n →
      View.read (Elt F) oM.view (oM.view.writes (Elt F) fo (tiles fx n h)) i = outVal fx i
  | 0, _, i, hi => absurd hi (by omega)
  | n + 1, h, i, hi => by
    have hd : tiles fx (n + 1) h = ⟨Rect.unit (s := S8192x1024) ![256 * n, 0] S256x1024.size (tile_inb n h), outBlk fx n⟩
      :: tiles fx n (Nat.le_of_succ_le h) := rfl
    rw [hd]
    by_cases hn : (i 0).val < 256 * n
    · have hm := View.read_writes_cons_unit_of_not_mem (Val := Elt F) oM.view fo (tile_inb n h) (outBlk fx n)
        (tiles fx n (Nat.le_of_succ_le h)) i rfl 0 (Or.inl hn)
      exact hm.trans (read_tiles_lt fx fo n _ i hn)
    · have hm := View.read_writes_cons_unit_of_mem (Val := Elt F) oM.view fo (tile_inb n h) (outBlk fx n)
        (tiles fx n (Nat.le_of_succ_le h)) i (ix2 ⟨(i 0).val % 256, Nat.mod_lt _ (by decide)⟩ (i 1)) rfl (fun a => by
          match a with
          | 0 => show (i 0).val = 256 * n + (i 0).val % 256; omega
          | 1 => show (i 1).val = 0 + (i 1).val; omega)
      refine hm.trans ?_
      unfold outVal
      rw [show (i 0).val / 256 = n by omega]

/-- After all thirty-two output copies the output is the running sums, whatever it held. -/
theorem writes_tiles (fx : Arg F) (fo : S8192x1024.Idx → F .bf16) :
    oM.view.writes (Elt F) fo (tiles fx 32 (le_refl 32)) = outVal fx :=
  (View.read_whole (Val := Elt F) main_v1_0 _).symm.trans (funext fun i => read_tiles_lt fx fo 32 _ i (i 0).isLt)

/-- An output copy out of the slot just stored, for a payload known to be a block reshaped. -/
theorem stage_eq (s : ℕ) (h1 h2 : ∀ a, (![s, 0, 0] : Fin 3 → ℕ) a + S1x256x1024.size a ≤ S8x256x1024.size a)
    (fg : S8x256x1024.Idx → F .bf16) (W : FVec F S1x256x1024 .bf16) (w : FVec F S256x1024 .bf16)
    (L : List (View.Piece (Elt F) S8x256x1024 .bf16)) (hW : W = shapeCast S1x256x1024 w shapeCasts_S256x1024_S1x256x1024) :
    ReadAs.same.apply (View.read (Elt F) (stageV s h1).view
      (gM.view.writes (Elt F) fg (⟨Rect.unit (s := S8x256x1024) ![s, 0, 0] S1x256x1024.size h2, W⟩ :: L))) = w := by
  subst hW
  exact stage_read s h1 h2 fg w L

/-- One more output copy in the list. -/
theorem tile_cons (fx : Arg F) (n o : ℕ) (h : n + 1 ≤ 32)
    (hin : ∀ a, (![o, 0] : Fin 2 → ℕ) a + S256x1024.size a ≤ S8192x1024.size a) (w : FVec F S256x1024 .bf16)
    (L : List (View.Piece (Elt F) S8192x1024 .bf16)) (ho : o = 256 * n) (hw : w = outBlk fx n)
    (hL : L = tiles fx n (Nat.le_of_succ_le h)) :
    (⟨Rect.unit (s := S8192x1024) ![o, 0] S256x1024.size hin, w⟩ :: L : List (View.Piece (Elt F) S8192x1024 .bf16))
      = tiles fx (n + 1) h := by
  subst ho hw hL
  rfl

local notation "𝕄" => MT nD τ sig Unit (Elt F) ℕ UU ℕ

/-- The send buffer after the store of the totals, split into the three shares the copies read. -/
theorem tot_of (c : Dev nD) (T : Dev nD → FVec F S1x1024 .f32) (fs : S1x1024.Idx → F .f32)
    (h : ∀ a, (![0, 0] : Fin 2 → ℕ) a + S1x1024.size a ≤ S1x1024.size a) (w : FVec F S1x1024 .f32) (hw : w = T c) :
    (sM.view.loc (c : Thread nD τ) ↦{fullShare} sM.view.writes (Elt F) fs [⟨Rect.unit (s := S1x1024) ![0, 0] S1x1024.size h, w⟩] : sProp 𝕄)
      ⊢ iprop(totPt c (shareOf 0) (T c) ∗ totPt c (shareOf 1) (T c) ∗ totPt c (shareOf 2) (T c)) := by
  subst hw
  have e : sM.view.writes (Elt F) fs [⟨Rect.unit (s := S1x1024) ![0, 0] S1x1024.size h, T c⟩] = T c :=
    (View.read_whole (Val := Elt F) cc0_scratch2 _).symm.trans (View.read_writes_full (Val := Elt F) sM.view fs h (T c) [])
  rw [e]
  exact (tot_split c (T c)).1

end Cert.ScanProof
-- ==== Proof.Places.lean ====
/-
  What a device holds of the protocol when its body starts: the rights to pay, the credits to wait with, and where each
  of its cells stands; and the words the program computes from its device number, as numbers: which device a copy goes to,
  under which condition, and on which semaphore.
-/
module

public import proofs.«01_k».proof.Proof.Values

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- The body, on the buffers the region hands it. -/
abbrev body : Prog (TpuEff nD τ sig (Elt F) Λ₀ .tc) PUnit :=
  cc0_body xM (Memref.isWhole_whole _) oM (Memref.isWhole_whole _) fM (hstage0_0 0) gM (Memref.isWhole_whole _) bM (Memref.isWhole_whole _) sM (Memref.isWhole_whole _) rM (Memref.isWhole_whole _) cc0_scratch4 cc0_scratch5 cc0_scratch6 cc0_scratch7

/-- The rights to credit another device's counter, one per signal and two per copy. -/
def tokens (c : Dev nD) : sProp 𝕄 :=
  iprop((dutyTok ER (barCell (nth c 0)) 0 c ∗ dutyTok ER (barCell (nth c 1)) 0 c ∗ dutyTok ER (barCell (nth c 2)) 0 c)
    ∗ (dutyTok ER (sendCell c 0) 0 c ∗ dutyTok ER (sendCell c 1) 0 c ∗ dutyTok ER (sendCell c 2) 0 c)
    ∗ (dutyTok ER (recvCell (nth c 0) c.val) 0 c ∗ dutyTok ER (recvCell (nth c 1) c.val) 0 c ∗ dutyTok ER (recvCell (nth c 2) c.val) 0 c))

/-- What a device may take from its own counters. -/
def creds (c : Dev nD) : sProp 𝕄 :=
  iprop(cred (tallyAt (barCell c) () 3) ∗ credR c 0 ∗ credR c 1 ∗ credR c 2)

/-- Where each of the device's own cells stands before the body. -/
def places (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0)
    ∗ (reached ER (sendCell c 0) 0 ∗ reached ER (sendCell c 1) 0 ∗ reached ER (sendCell c 2) 0)
    ∗ (reached ER (recvCell c (nth c 0).val) 0 ∗ reached ER (recvCell c (nth c 1).val) 0 ∗ reached ER (recvCell c (nth c 2).val) 0))

/-! ## The places the program computes -/

theorem cond1_iff : ∀ c : Dev nD, k0_cond1 c = 1#1 ↔ c.val + 0 + 1 ≤ 3 := by decide +kernel
theorem cond2_iff : ∀ c : Dev nD, k0_cond2 c = 1#1 ↔ c.val + 1 + 1 ≤ 3 := by decide +kernel
theorem cond3_iff : ∀ c : Dev nD, k0_cond3 c = 1#1 ↔ c.val + 2 + 1 ≤ 3 := by decide +kernel
theorem cond7_iff : ∀ c : Dev nD, k0_cond7 c = 1#1 ↔ c.val + 0 + 1 ≤ 3 := by decide +kernel
theorem cond8_iff : ∀ c : Dev nD, k0_cond8 c = 1#1 ↔ c.val + 1 + 1 ≤ 3 := by decide +kernel
theorem cond9_iff : ∀ c : Dev nD, k0_cond9 c = 1#1 ↔ c.val + 2 + 1 ≤ 3 := by decide +kernel

theorem dev4_nth : ∀ (c : Dev nD) (h : k0_cond1 c = 1#1), (⟨k0_dev4 c, k0_dev4_lt c h⟩ : Dev nD) = nth c 0 := by decide +kernel
theorem dev5_nth : ∀ (c : Dev nD) (h : k0_cond2 c = 1#1), (⟨k0_dev5 c, k0_dev5_lt c h⟩ : Dev nD) = nth c 1 := by decide +kernel
theorem dev6_nth : ∀ (c : Dev nD) (h : k0_cond3 c = 1#1), (⟨k0_dev6 c, k0_dev6_lt c h⟩ : Dev nD) = nth c 2 := by decide +kernel

/-- The place of a device, as the program computes it. -/
abbrev placeW (c : Dev nD) : BitVec 32 := Scalar.remsi (Scalar.divsi (Dev.word c) 1#32) 4#32

theorem gt0_iff : ∀ c : Dev nD, (Scalar.cmpi .ne (Scalar.extui (Scalar.cmpi .sgt (placeW c) 0#32)) 0#32 = 1#1) ↔ 0 < c.val := by
  decide +kernel
theorem gt1_iff : ∀ c : Dev nD, (Scalar.cmpi .ne (Scalar.extui (Scalar.cmpi .sgt (placeW c) 1#32)) 0#32 = 1#1) ↔ 1 < c.val := by
  decide +kernel
theorem gt2_iff : ∀ c : Dev nD, (Scalar.cmpi .ne (Scalar.extui (Scalar.cmpi .sgt (placeW c) 2#32)) 0#32 = 1#1) ↔ 2 < c.val := by
  decide +kernel

/-- The semaphore a send credits at its own device. -/
theorem send_sem (t : ℕ) (h : ∀ a, (![t] : Fin 1 → ℕ) a + S1.size a ≤ S3.size a) :
    (((cc0_scratch6 : DmaSems sig S3).slice (Rect.unit (s := S3) ![t] S1.size h)).squeeze S_ squeezes_S1_S_).sem = sendS t := by
  have ht : t + 1 ≤ 3 := h 0
  have hd : ∀ t : Fin 3, ∀ h : (∀ a, (![t.val] : Fin 1 → ℕ) a + S1.size a ≤ S3.size a),
      (((cc0_scratch6 : DmaSems sig S3).slice (Rect.unit (s := S3) ![t.val] S1.size h)).squeeze S_ squeezes_S1_S_).sem = sendS t.val := by
    decide +kernel
  exact hd ⟨t, ht⟩ h

/-- The semaphore a receive waits on. -/
theorem recv_sem_at (t : ℕ) (h : ∀ a, (![t] : Fin 1 → ℕ) a + S1.size a ≤ S3.size a) :
    (((cc0_scratch7 : DmaSems sig S3).slice (Rect.unit (s := S3) ![t] S1.size h)).squeeze S_ squeezes_S1_S_).sem = recvS t := by
  have ht : t + 1 ≤ 3 := h 0
  have hd : ∀ t : Fin 3, ∀ h : (∀ a, (![t.val] : Fin 1 → ℕ) a + S1.size a ≤ S3.size a),
      (((cc0_scratch7 : DmaSems sig S3).slice (Rect.unit (s := S3) ![t.val] S1.size h)).squeeze S_ squeezes_S1_S_).sem = recvS t.val := by
    decide +kernel
  exact hd ⟨t, ht⟩ h

/-- The receive semaphore a send names. -/
theorem recv_sem (c : Dev nD) (o : Fin 1 → ℕ) (ho : o = ![c.val]) (h : ∀ a, o a + S1.size a ≤ S3.size a) :
    (((cc0_scratch7 : DmaSems sig S3).slice (Rect.unit (s := S3) o S1.size h)).squeeze S_ squeezes_S1_S_).sem = recvS c.val := by
  subst ho
  revert c
  decide +kernel

end Cert.ScanProof
-- ==== Proof.Offset.lean ====
/-
  The offset a device adds: the sum of the totals of the devices before it. The program always loads the three receive
  rows and selects zero for a row no earlier device filled, so what such a row holds does not matter.
-/
module

public import proofs.«01_k».proof.Proof.Places

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- Row j of the receive buffer. -/
def rowAt (j : Fin 3) (f : S3x1x1024.Idx → F .f32) : Vec F S1x1x1024 .f32 := fun i : S1x1x1024.Idx => f (ix3 j (i 1) (i 2))

/-- The offset of device c, from all devices' totals. -/
def offVal (c : Dev nD) (T : Dev nD → FVec F S1x1024 .f32) : FVec F S1x1024 .f32 :=
  k0_pay88 (placeW c) (rowAt 0 (rowsOf T)) (rowAt 1 (rowsOf T)) (rowAt 2 (rowsOf T))

theorem sgt_off : ∀ (c : Dev nD) (j : Fin 3), ¬ j.val < c.val → Scalar.cmpi .sgt (placeW c) (BitVec.ofNat 32 j.val) = 0#1 := by
  decide +kernel

theorem select_eq {c : Dev nD} (j : Fin 3) {a b z : FVec F S1x1024 .f32} (h : j.val < c.val → a = b) :
    Scalar.select (Scalar.cmpi .sgt (placeW c) (BitVec.ofNat 32 j.val)) a z
      = Scalar.select (Scalar.cmpi .sgt (placeW c) (BitVec.ofNat 32 j.val)) b z := by
  by_cases hj : j.val < c.val
  · rw [h hj]
  · rw [sgt_off c j hj]; rfl

theorem pay88_congr {c : Dev nD} {a0 a1 a2 b0 b1 b2 : Vec F S1x1x1024 .f32} (h0 : 0 < c.val → a0 = b0) (h1 : 1 < c.val → a1 = b1)
    (h2 : 2 < c.val → a2 = b2) : k0_pay88 (placeW c) a0 a1 a2 = k0_pay88 (placeW c) b0 b1 b2 := by
  have e0 := fun z : FVec F S1x1024 .f32 => select_eq (c := c) 0 (z := z) fun h => congrArg (fun v : Vec F S1x1x1024 .f32 => (shapeCast S1x1024 v shapeCasts_S1x1x1024_S1x1024 : FVec F S1x1024 .f32)) (h0 h)
  have e1 := fun z : FVec F S1x1024 .f32 => select_eq (c := c) 1 (z := z) fun h => congrArg (fun v : Vec F S1x1x1024 .f32 => (shapeCast S1x1024 v shapeCasts_S1x1x1024_S1x1024 : FVec F S1x1024 .f32)) (h1 h)
  have e2 := fun z : FVec F S1x1024 .f32 => select_eq (c := c) 2 (z := z) fun h => congrArg (fun v : Vec F S1x1x1024 .f32 => (shapeCast S1x1024 v shapeCasts_S1x1x1024_S1x1024 : FVec F S1x1024 .f32)) (h2 h)
  unfold k0_pay88
  exact congrArg₂ addf (congrArg₂ addf (congrArg (addf _) (e0 _)) (e1 _)) (e2 _)

/-- The rows as they stand after the receives give the offset. -/
theorem off_eq (c : Dev nD) (T : Dev nD → FVec F S1x1024 .f32) (f : S3x1x1024.Idx → F .f32)
    (hf : ∀ i : S3x1x1024.Idx, (i 0).val < c.val → f i = rowsOf T i) :
    k0_pay88 (placeW c) (rowAt 0 f) (rowAt 1 f) (rowAt 2 f) = offVal c T :=
  pay88_congr (fun h => funext fun i => hf _ h) (fun h => funext fun i => hf _ h) (fun h => funext fun i => hf _ h)

end Cert.ScanProof
-- ==== Proof.Sums.lean ====
/-
  The kernel's values at the ideal floats, index by index: each chunk, each device's totals, its output and its offset as
  sums of its argument's columns.
-/
module

public import proofs.«01_k».proof.Proof.Offset
public import Idealize.ShloMosaic.Lib.MatmulPlain
public import Idealize.ShloMosaic.Lib.WordCmp

@[expose] public section

set_option maxRecDepth 16384

noncomputable section

namespace Cert.ScanProof

open Cert.KernelIdeal Cert.KernelIdeal.Gen
open Idealize.ShloMosaic Idealize.ShloMosaic.ValueIdx
open Idealize.ShloMosaic.TcCoe
open scoped BigOperators

/-- Column j of one device's argument, row by row. -/
def colOf (x : Arg Ideal) (j : Fin 1024) (r : ℕ) : EReal := x (ix2 ⟨r % 8192, Nat.mod_lt _ (by decide)⟩ j)

/-- The triangle's word at (i, l). -/
theorem tri_word (i l : ℕ) (hi : i < 256) (hl : l < 256) :
    (BitVec.setWidth 32 (IntOp.cmpi .sge (BitVec.ofNat 32 i) (BitVec.ofNat 32 l))).toInt = if l ≤ i then 1 else 0 := by
  rw [WordCmp.cmpi_sge_ofNat (by omega) (by omega)]
  by_cases h : l ≤ i
  · rw [if_pos h, decide_eq_true h]; rfl
  · rw [if_neg h, decide_eq_false h]; rfl

/-- The triangle of ones at (i, l). -/
theorem tri_apply (i l : Fin 256) : k0_pay1 (F := Ideal) (ix2 i l) = if l.val ≤ i.val then 1 else 0 := by
  have h : k0_pay1 (F := Ideal) (ix2 i l)
      = (((BitVec.setWidth 32 (IntOp.cmpi .sge (BitVec.ofNat 32 (0 * 256 + i.val)) (BitVec.ofNat 32 (0 * 256 + l.val)))).toInt : ℝ) : EReal) := rfl
  rw [h, Nat.zero_mul, Nat.zero_add, Nat.zero_add, tri_word i.val l.val i.isLt l.isLt]
  split <;> simp

/-- A sum over the rows up to i, from the triangle's product. -/
theorem tri_sum (i : Fin 256) (f : ℕ → EReal) :
    ∑ l : Fin 256, (if l.val ≤ i.val then (1 : EReal) else 0) * f l.val = ∑ r ∈ Finset.range (i.val + 1), f r := by
  have e : ∀ l : Fin 256, (if l.val ≤ i.val then (1 : EReal) else 0) * f l.val = (fun n : ℕ => if n ≤ i.val then f n else 0) l.val := fun l => by
    dsimp only
    split
    · rw [one_mul]
    · rw [zero_mul]
  rw [Finset.sum_congr rfl fun l _ => e l, Fin.sum_univ_eq_sum_range (fun n : ℕ => if n ≤ i.val then f n else 0) 256, ← Finset.sum_filter]
  refine Finset.sum_congr (Finset.ext fun n => ?_) fun _ _ => rfl
  have hi := i.isLt
  rw [Finset.mem_filter, Finset.mem_range, Finset.mem_range]
  omega

/-- One step at (i, j). -/
theorem step_apply (carry : FVec Ideal S1x1024 .f32) (blk : Vec Ideal S1x256x1024 .f32) (i : Fin 256) (j : Fin 1024) :
    stepVal carry blk (ix2 i j) = (∑ l : Fin 256, (if l.val ≤ i.val then (1 : EReal) else 0) * blk (ix3 0 l j)) + carry (ix2 0 j) := by
  have h0 : (constant (F := Ideal) S256x1024 .f32 0x00000000#32) (ix2 i j) = (0 : EReal) := by
    show Ideal.ofBits .f32 0 = 0
    simp [Ideal.ofBits, Ideal.ieee]
  have hm := Ideal.matmul_plain_apply (M := 256) (K := 256) (N := 1024) none (k0_pay1 (F := Ideal))
    (truncf .bf16 (shapeCast S256x1024 blk shapeCasts_S1x256x1024_S256x1024) bitsLt_bf16_f32)
    (constant (F := Ideal) S256x1024 .f32 0x00000000#32) i j
  have hb : ∀ l : Fin 256, (truncf .bf16 (shapeCast S256x1024 blk shapeCasts_S1x256x1024_S256x1024) bitsLt_bf16_f32 : FVec Ideal S256x1024 .bf16) (ix2 l j) = blk (ix3 0 l j) := fun l => by
    show blk (Shape.reshapeEquiv _ (ix2 l j)) = _
    refine congrArg blk ?_
    refine (Shape.reshapeEquiv_cons_one _ (ix2 l j)).trans ?_
    funext a; match a with
    | 0 => rfl
    | 1 => rfl
    | 2 => rfl
  have hc : (broadcastTo S256x1024 carry broadcasts_S1x1024_S256x1024) (ix2 i j) = carry (ix2 0 j) := by
    refine congrArg carry ?_
    funext a; match a with
    | 0 => rfl
    | 1 => rfl
  refine (congrArg₂ (· + ·) (hm.trans ?_) hc)
  rw [h0, zero_add]
  exact Finset.sum_congr rfl fun l _ => congrArg₂ (· * ·) (tri_apply i l) (hb l)

/-- The zero word is the number zero. -/
theorem zero_word : (Ideal.ofBits .f32 0 : EReal) = 0 := by simp [Ideal.ofBits, Ideal.ieee]

/-- The row carried into the first chunk is zero. -/
theorem zeroRow_apply (j : Fin 1024) : zeroRow (F := Ideal) (ix2 0 j) = (0 : EReal) := zero_word

/-- The row a chunk hands on is its last. -/
theorem lastRow_apply (v : FVec Ideal S256x1024 .f32) (j : Fin 1024) : lastRow v (ix2 0 j) = v (ix2 255 j) := by
  refine congrArg v ?_
  funext a; match a with
  | 0 => rfl
  | 1 => exact Fin.ext (Nat.zero_add _)

/-- One step from row 256 k on: the carried row and the chunk's rows up to i. -/
theorem step_sum (x : Arg Ideal) (carry : FVec Ideal S1x1024 .f32) (k : ℕ) (i : Fin 256) (j : Fin 1024)
    (h : carry (ix2 0 j) = ∑ r ∈ Finset.range (256 * k), colOf x j r) :
    stepVal carry (blkAt x (256 * k)) (ix2 i j) = ∑ r ∈ Finset.range (256 * k + (i.val + 1)), colOf x j r := by
  rw [step_apply, h, Finset.sum_range_add, add_comm]
  exact congrArg _ (tri_sum i fun l => colOf x j (256 * k + l))

/-- Chunk k's running sums are the column's, from row 0 on. -/
theorem chunk_apply (x : Arg Ideal) (j : Fin 1024) : ∀ (k : ℕ) (i : Fin 256),
    chunk x k (ix2 i j) = ∑ r ∈ Finset.range (256 * k + (i.val + 1)), colOf x j r
  | 0, i => step_sum x zeroRow 0 i j (zeroRow_apply j)
  | k + 1, i => step_sum x (lastRow (chunk x k)) (k + 1) i j ((lastRow_apply _ j).trans (chunk_apply x j k 255))

/-- A device's totals are its columns' sums. -/
theorem total_apply (x : Arg Ideal) (j : Fin 1024) : total x (ix2 0 j) = ∑ r ∈ Finset.range 8192, colOf x j r := by
  show (shapeCast S1x1024 (lastRow (chunk x 31)) shapeCasts_S1x1024_S1x1024) (ix2 0 j) = _
  rw [shapeCast_self, lastRow_apply]
  exact chunk_apply x j 31 255

/-- A device's output before the offset: the running sums of its own rows. -/
theorem outVal_apply (x : Arg Ideal) (i : Fin 8192) (j : Fin 1024) :
    outVal x (ix2 i j) = ∑ r ∈ Finset.range (i.val + 1), colOf x j r := by
  have h := chunk_apply x j (i.val / 256) ⟨i.val % 256, Nat.mod_lt _ (by decide)⟩
  rw [show 256 * (i.val / 256) + (i.val % 256 + 1) = i.val + 1 by omega] at h
  exact h

/-- The device's place exceeds j where the device has a lower neighbour at j. -/
theorem sgt_on : ∀ (c : Dev nD) (j : Fin 3), j.val < c.val → Scalar.cmpi .sgt (placeW c) (BitVec.ofNat 32 j.val) = 1#1 := by
  decide +kernel

/-- What device j contributes to the offset of device c. -/
theorem part_apply (c : Dev nD) (T : Dev nD → FVec Ideal S1x1024 .f32) (j : Fin 3) (l : Fin 1024) :
    (Scalar.select (Scalar.cmpi .sgt (placeW c) (BitVec.ofNat 32 j.val))
        (shapeCast S1x1024 (rowAt j (rowsOf T)) shapeCasts_S1x1x1024_S1x1024 : FVec Ideal S1x1024 .f32)
        (broadcast S1x1024 (Scalar.ofBits .f32 0x00000000#32))) (ix2 0 l)
      = if j.val < c.val then T ⟨j.val, Nat.lt_trans j.isLt (by decide)⟩ (ix2 0 l) else 0 := by
  by_cases h : j.val < c.val
  · rw [if_pos h, sgt_on c j h]
    show rowAt j (rowsOf T) (Shape.reshapeEquiv _ (ix2 0 l)) = _
    refine (congrArg (rowAt j (rowsOf T)) (Shape.reshapeEquiv_cons_one _ (ix2 0 l))).trans ?_
    rfl
  · rw [if_neg h, sgt_off c j h]
    exact zero_word

/-- The first n of three terms, n below four. -/
theorem first_three (g : ℕ → EReal) : ∀ n : ℕ, n < 4 →
    (0 + (if 0 < n then g 0 else 0)) + (if 1 < n then g 1 else 0) + (if 2 < n then g 2 else 0) = ∑ d ∈ Finset.range n, g d
  | 0, _ => by simp
  | 1, _ => by simp
  | 2, _ => by simp [Finset.sum_range_succ]
  | 3, _ => by simp [Finset.sum_range_succ]
  | n + 4, h => absurd h (by omega)

/-- The offset of device c: the totals of the devices before it. -/
theorem offVal_apply (c : Dev nD) (T : Dev nD → FVec Ideal S1x1024 .f32) (g : ℕ → EReal) (l : Fin 1024)
    (hg : ∀ d : Dev nD, T d (ix2 0 l) = g d.val) : offVal c T (ix2 0 l) = ∑ d ∈ Finset.range c.val, g d := by
  have hp (j : Fin 3) := (part_apply c T j l).trans (by rw [hg])
  have hz : (broadcast S1x1024 (Scalar.ofBits (F := Ideal) .f32 0x00000000#32)) (ix2 0 l) = (0 : EReal) := zero_word
  have h : offVal c T (ix2 0 l) = (0 + (if 0 < c.val then g 0 else 0)) + (if 1 < c.val then g 1 else 0) + (if 2 < c.val then g 2 else 0) :=
    congrArg₂ (· + ·) (congrArg₂ (· + ·) (congrArg₂ (· + ·) hz (hp 0)) (hp 1)) (hp 2)
  exact h.trans (first_three g c.val c.isLt)

end Cert.ScanProof
-- ==== Proof.Reference.lean ====
/-
  The reference's running sum at the ideal floats: a window of the whole height padded low by one row less, read at an
  index, is the sum of the column down to that row.
-/
module

public import Idealize.ShloMosaic.PureOps.Ideal.Laws
public import Idealize.ShloMosaic.Lib.ValueIdxCore
public import proofs.«01_k».proof.Proof.Gen.ReferenceIdeal

@[expose] public section

noncomputable section

namespace Cert.ScanProof

open Idealize.ShloMosaic Idealize.ShloMosaic.ValueIdx
open scoped BigOperators

/-- The windowed sum at the ideal floats, its result cut to bf16, from the initial value's one element. -/
theorem windowed_ideal {s t u : Shape} (w st lo hi : Fin s.rank → ℕ) (x : FVec Ideal s .f32) (init : FVec Ideal u .f32)
    (h : s.ReduceWindows w st lo hi t) (hu : 0 < u.numel) (hb : FTy.bf16.bits < FTy.f32.bits) (i : t.Idx) :
    (truncf .bf16 (Host.reduceWindowAdd w st lo hi x init h hu) hb : FVec Ideal t .bf16) i
      = Ideal.hostReduceWindowAdd w st lo hi h x (init (Shape.Idx.first hu)) i := rfl

/-- A fold that adds one term for each position is the initial value and the sum of the terms. -/
theorem fold_sum {N : ℕ} (g : Fin N → EReal) (v : EReal) :
    (List.finRange N).foldl (fun r n => r + g n) v = v + ∑ n, g n := by
  rw [Fin.sum_univ_def]
  induction List.finRange N generalizing v with
  | nil => exact (add_zero v).symm
  | cons a l ih => rw [List.foldl_cons, ih, List.map_cons, List.sum_cons, add_assoc]

/-- The window that ends at row j meets the column's first j + 1 rows. -/
theorem window_sum (P : ℕ) (f : ℕ → EReal) (j : ℕ) (hj : j ≤ P) :
    ∑ n ∈ Finset.range (P + 1), (if P ≤ j + n then f (j + n - P) else 0) = ∑ r ∈ Finset.range (j + 1), f r := by
  obtain ⟨d, rfl⟩ := Nat.exists_eq_add_of_le hj
  rw [show j + d + 1 = d + (j + 1) by omega, Finset.sum_range_add, Finset.sum_eq_zero (fun n hn => ?_), zero_add]
  · refine Finset.sum_congr rfl fun n _ => ?_
    rw [if_pos (by omega), show j + (d + n) - (j + d) = n by omega]
  · rw [Finset.mem_range] at hn
    exact if_neg (by omega)

/-- Position n of a window of R rows and one column is at row n and column 0. -/
theorem column_pos (R : ℕ) (n : Fin (⟨2, ![R, 1]⟩ : Shape).numel) :
    ((⟨2, ![R, 1]⟩ : Shape).rowMajor.symm n 0).val = n.val ∧ ((⟨2, ![R, 1]⟩ : Shape).rowMajor.symm n 1).val = 0 := by
  have h1 : ((⟨2, ![R, 1]⟩ : Shape).rowMajor.symm n 1).val < 1 := ((⟨2, ![R, 1]⟩ : Shape).rowMajor.symm n 1).isLt
  have h := (Shape.rowMajor_val_two _).symm.trans (congrArg Fin.val ((⟨2, ![R, 1]⟩ : Shape).rowMajor.apply_symm_apply n))
  replace h : ((⟨2, ![R, 1]⟩ : Shape).rowMajor.symm n 0).val * 1 + ((⟨2, ![R, 1]⟩ : Shape).rowMajor.symm n 1).val = n.val := h
  omega

/-- Such a window has R positions. -/
theorem column_numel (R : ℕ) : (⟨2, ![R, 1]⟩ : Shape).numel = R := by simp [Shape.numel]

/-- The running sum down the rows of a matrix, at (i, j). -/
theorem windowed (R P C : ℕ) (hR : P + 1 = R) (x : (⟨2, ![R, C]⟩ : Shape).Idx → EReal) (f : ℕ → EReal)
    (h : (⟨2, ![R, C]⟩ : Shape).ReduceWindows (![R, 1] : Fin 2 → ℕ) ![1, 1] ![P, 0] ![0, 0] ⟨2, ![R, C]⟩) (i : Fin R) (j : Fin C)
    (hf : ∀ r : Fin R, x (ix2 r j) = f r.val) :
    Ideal.hostReduceWindowAdd (![R, 1] : Fin 2 → ℕ) ![1, 1] ![P, 0] ![0, 0] h x 0 (ix2 i j) = ∑ r ∈ Finset.range (i.val + 1), f r := by
  subst hR
  have hi := i.isLt
  have hj := j.isLt
  unfold Ideal.hostReduceWindowAdd Host.reduceWindow
  refine (fold_sum _ 0).trans ?_
  rw [zero_add]
  refine Eq.trans (Finset.sum_congr rfl fun n _ => ?_)
    ((Fin.sum_univ_eq_sum_range (fun n : ℕ => if P ≤ i.val + n then f (i.val + n - P) else 0) _).trans ?_)
  · obtain ⟨e0, e1⟩ := column_pos (P + 1) n
    have hn : n.val < P + 1 := lt_of_lt_of_eq n.isLt (column_numel _)
    dsimp only
    split
    · next hin =>
      have h0 : P ≤ i.val * 1 + ((⟨2, ![P + 1, 1]⟩ : Shape).rowMajor.symm n 0).val := (hin 0).1
      have h0' : i.val * 1 + ((⟨2, ![P + 1, 1]⟩ : Shape).rowMajor.symm n 0).val - P < P + 1 := (hin 0).2
      rw [e0] at h0 h0'
      rw [if_pos (by omega), ← hf ⟨i.val + n.val - P, by omega⟩]
      refine congrArg x (funext fun a => Fin.ext ?_)
      match a with
      | ⟨0, _⟩ =>
        show i.val * 1 + ((⟨2, ![P + 1, 1]⟩ : Shape).rowMajor.symm n 0).val - P = i.val + n.val - P
        rw [e0, Nat.mul_one]
      | ⟨1, _⟩ =>
        show j.val * 1 + ((⟨2, ![P + 1, 1]⟩ : Shape).rowMajor.symm n 1).val - 0 = j.val
        rw [e1]; omega
    · next hin =>
      refine (if_neg fun hle => hin fun a => ?_).symm
      match a with
      | ⟨0, _⟩ =>
        show P ≤ i.val * 1 + ((⟨2, ![P + 1, 1]⟩ : Shape).rowMajor.symm n 0).val
          ∧ i.val * 1 + ((⟨2, ![P + 1, 1]⟩ : Shape).rowMajor.symm n 0).val - P < P + 1
        rw [e0]; omega
      | ⟨1, _⟩ =>
        show 0 ≤ j.val * 1 + ((⟨2, ![P + 1, 1]⟩ : Shape).rowMajor.symm n 1).val
          ∧ j.val * 1 + ((⟨2, ![P + 1, 1]⟩ : Shape).rowMajor.symm n 1).val - 0 < C
        rw [e1]; omega
  · rw [show (⟨2, ![P + 1, 1]⟩ : Shape).numel = P + 1 from column_numel _]
    exact window_sum P f i.val (by omega)

end Cert.ScanProof
-- ==== Proof.Deal.lean ====
/-
  What the launch deals to the devices: each one's barrier position, the rights to open its send and receive cells, the
  rights to pay, and the credits it will wait with.
-/
module

public import proofs.«01_k».proof.Proof.Places

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
local notation "𝕄" => MT nD τ sig Unit (Elt F) ℕ UU ℕ

/-! ## Sums over a few indices -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The rights to pay -/

/-- The cell of right `k` of device c: the three signals, the three sends' own semaphores, the three sends' far ones. -/
def payCell (c : Dev nD) (k : Fin 9) : GSem nD τ sig :=
  if k.val < 3 then barCell (nth c k.val)
  else if k.val < 6 then sendCell c (k.val - 3)
  else recvCell (nth c (k.val - 6)) c.val

theorem payCell_inj : ∀ c : Dev nD, Function.Injective (payCell c) := by decide +kernel

def payEmb : Dev nD × Fin 9 ↪ GSem nD τ sig × ℕ × Dev nD :=
  ⟨fun ck => (payCell ck.1 ck.2, 0, ck.1), fun a b h => by
    have h1 : a.1 = b.1 := congrArg (fun t : GSem nD τ sig × ℕ × Dev nD => t.2.2) h
    have h2 : payCell a.1 a.2 = payCell b.1 b.2 := congrArg (fun t : GSem nD τ sig × ℕ × Dev nD => t.1) h
    rw [h1] at h2
    exact Prod.ext h1 (payCell_inj b.1 h2)⟩

/-- All the rights, indexed by the device that pays. -/
def rights : Finset (GSem nD τ sig × ℕ × Dev nD) := Finset.univ.map payEmb

theorem rights_at (c : Dev nD) : (bigSep Finset.univ fun k : Fin 9 => (dutyTok ER (payCell c k) 0 c : sProp 𝕄)) ⊢ tokens c := by
  unfold tokens
  iintro H
  ihave H := (Entails.of_eq (nine _)) $$ H
  icases H with ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

theorem rights_eq : bigSep rights (fun x => (dutyTok ER x.1 x.2.1 x.2.2 : sProp 𝕄)) ⊢ bigSep Finset.univ fun c : Dev nD => tokens c := by
  unfold rights
  rw [bigSep_map, bigSep_univ_prod]
  exact bigSep_mono fun c _ => rights_at c

/-! ## The credits -/

/-- How many receive credits device d owes the cell g, and how many barrier units. -/
def owesRecv (d : Dev nD) (g : GSem nD τ sig) : ℕ :=
  ∑ t : Fin 3, if d.val + t.val + 1 ≤ 3 ∧ g = recvCell (nth d t.val) d.val then 1 else 0
def owesBar (d : Dev nD) (g : GSem nD τ sig) : ℕ :=
  ∑ t : Fin 3, if g = barCell (nth d t.val) then 1 else 0

theorem owe_at (d : Dev nD) (t : ℕ) (g : GSem nD τ sig) :
    owe d t g () = N * (if d.val + t + 1 ≤ 3 ∧ g = recvCell (nth d t) d.val then 1 else 0) := by
  unfold owe
  by_cases h : d.val + t + 1 ≤ 3
  · rw [if_pos h, tallyAt_apply]
    by_cases h' : g = recvCell (nth d t) d.val
    · rw [if_pos ⟨h', rfl⟩, if_pos ⟨h, h'⟩, Nat.mul_one]
    · rw [if_neg fun hh => h' hh.1, if_neg fun hh => h' hh.2, Nat.mul_zero]
  · rw [if_neg h, if_neg fun hh => h hh.1, Nat.mul_zero]; rfl
theorem unit_at (e : Dev nD) (g : GSem nD τ sig) :
    (tallyAt (barCell e) () 1 : CellTallies nD τ sig Unit) g () = if g = barCell e then 1 else 0 := by
  rw [tallyAt_apply]
  by_cases h' : g = barCell e
  · rw [if_pos ⟨h', rfl⟩, if_pos h']
  · rw [if_neg fun hh => h' hh.1, if_neg h']

theorem arrange (a0 a1 a2 b0 b1 b2 : ℕ) : 0 + a2 + a1 + a0 + b2 + b1 + b0 = a0 + a1 + a2 + (b0 + b1 + b2) := by omega

theorem owed_at (d : Dev nD) (g : GSem nD τ sig) : O₀ d g () = N * owesRecv d g + owesBar d g := by
  have e : O₀ d g () = 0 + owe d 2 g () + owe d 1 g () + owe d 0 g ()
      + (tallyAt (barCell (nth d 2)) () 1 : CellTallies nD τ sig Unit) g ()
      + (tallyAt (barCell (nth d 1)) () 1 : CellTallies nD τ sig Unit) g ()
      + (tallyAt (barCell (nth d 0)) () 1 : CellTallies nD τ sig Unit) g () := rfl
  rw [e, owe_at, owe_at, owe_at, unit_at, unit_at, unit_at]
  unfold owesRecv owesBar
  rw [Fin.sum_univ_three, Fin.sum_univ_three, Nat.mul_add, Nat.mul_add]
  exact arrange _ _ _ _ _ _

theorem recv_bar : ∀ c : Dev nD, ∑ d : Dev nD, owesRecv d (barCell c) = 0 := by decide +kernel
theorem bar_bar : ∀ c : Dev nD, ∑ d : Dev nD, owesBar d (barCell c) = 3 := by decide +kernel
theorem recv_recv : ∀ (c : Dev nD) (j : Fin 3), ∑ d : Dev nD, owesRecv d (recvCell c j.val) = if j.val < c.val then 1 else 0 := by
  decide +kernel
theorem bar_recv : ∀ (c : Dev nD) (j : Fin 3), ∑ d : Dev nD, owesBar d (recvCell c j.val) = 0 := by decide +kernel

/-- The counters a device waits on with credit. -/
def credEmb : Fin 4 ↪ SemLoc sig :=
  ⟨fun k => match k with | 0 => .reg barS | 1 => .dma (recvS 0) | 2 => .dma (recvS 1) | 3 => .dma (recvS 2), by decide⟩

theorem credit_at (g : GSem nD τ sig) (n : ℕ)
    (h : N * ∑ d : Dev nD, owesRecv d g + ∑ d : Dev nD, owesBar d g = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => owed_at d g, Finset.sum_add_distrib,
    ← Finset.mul_sum, h]

theorem creds_of (c : Dev nD) : (Pipeline.launchCred O₀ c : sProp 𝕄) ⊢ creds c := by
  have hb : tallyOn (barCell c) (launchCredit (Pipeline.owing O₀) 0 (barCell c)) = (tallyAt (barCell c) () 3 : CellTallies nD τ sig Unit) :=
    credit_at _ 3 (by rw [recv_bar, bar_bar, Nat.mul_zero])
  have hr (j : Fin 3) : (cred (tallyOn (recvCell c j.val) (launchCredit (Pipeline.owing O₀) 0 (recvCell c j.val))) : sProp 𝕄) ⊢ credR c j.val := by
    unfold credR
    by_cases h : j.val < c.val
    · rw [if_pos h, credit_at _ N (by rw [recv_recv, bar_recv, if_pos h, Nat.mul_one, Nat.add_zero])]
    · rw [if_neg h]; iintro -; iempintro
  unfold Pipeline.launchCred creds
  have e : (bigSep Finset.univ fun sm : SemLoc sig => (cred (tallyOn ((c.tc : Thread nD τ), sm) (launchCredit (Pipeline.owing O₀) 0 ((c.tc : Thread nD τ), sm))) : sProp 𝕄))
      ⊢ bigSep Finset.univ fun k : Fin 4 => cred (tallyOn ((c.tc : Thread nD τ), credEmb k) (launchCredit (Pipeline.owing O₀) 0 ((c.tc : Thread nD τ), credEmb k))) :=
    BIBase.Entails.trans (bigSep_subset (Finset.subset_univ (Finset.univ.map credEmb))) (Entails.of_eq (bigSep_map (s := Finset.univ) credEmb))
  iintro H
  ihave H := e $$ H
  ihave H := (Entails.of_eq (four _)) $$ H
  icases H with ⟨H0, H1, H2, H3⟩
  ihave H0 := (show (cred (tallyOn ((c.tc : Thread nD τ), credEmb 0) (launchCredit (Pipeline.owing O₀) 0 ((c.tc : Thread nD τ), credEmb 0))) : sProp 𝕄) ⊢ _ from Entails.of_eq (congrArg cred hb)) $$ H0
  ihave H1 := (show (cred (tallyOn ((c.tc : Thread nD τ), credEmb 1) (launchCredit (Pipeline.owing O₀) 0 ((c.tc : Thread nD τ), credEmb 1))) : sProp 𝕄) ⊢ _ from hr 0) $$ H1
  ihave H2 := (show (cred (tallyOn ((c.tc : Thread nD τ), credEmb 2) (launchCredit (Pipeline.owing O₀) 0 ((c.tc : Thread nD τ), credEmb 2))) : sProp 𝕄) ⊢ _ from hr 1) $$ H2
  ihave H3 := (show (cred (tallyOn ((c.tc : Thread nD τ), credEmb 3) (launchCredit (Pipeline.owing O₀) 0 ((c.tc : Thread nD τ), credEmb 3))) : sProp 𝕄) ⊢ _ from hr 2) $$ H3
  isplitl [H0]; · iexact H0
  isplitl [H1]; · iexact H1
  isplitl [H2]; · iexact H2
  iexact H3

/-! ## The launch -/

theorem osem_ne_bar : ∀ k : Fin 6, osem k ≠ .reg barS := by decide

theorem disjoint_cells : Disjoint (barCells : Finset (GSem nD τ sig)) scCells := by
  rw [Finset.disjoint_left]
  intro g h₁ h₂
  obtain ⟨c, -, rfl⟩ := Finset.mem_map.mp h₁
  obtain ⟨ck, -, h⟩ := Finset.mem_map.mp h₂
  exact osem_ne_bar ck.2 (congrArg Prod.snd h)

/-- The protocol's launch element. -/
abbrev dealt : UB := launchOf barCells scCells rights

/-- What stays with device c: its barrier position, the rights to open its six cells, the rights to pay. -/
def linear (c : Dev nD) : sProp 𝕄 :=
  iprop(atPos ER (barCell c) 0 ∅ 0 ∗ (bigSep Finset.univ fun k : Fin 6 => openTok ER ((c : Thread nD τ), osem k)) ∗ tokens c)

/-- From the barrier counters at zero and the launch element: every invariant under one naming, and each device's share. -/
theorem deal (T : Dev nD → FVec F S1x1024 .f32) :
    iprop((bigSep Finset.univ fun c : Dev nD => semVal (barCell c) 0) ∗ BI.own (ER dealt))
      ⊢ (|={Set.univ}=> ∃ κ, records T κ ∗ bigSep Finset.univ fun c : Dev nD => linear c : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 6 => (openTok ER ((c : Thread nD τ), osem k) : sProp 𝕄)) :=
    Entails.of_eq (by rw [bigSep_map, bigSep_univ_prod]; rfl)
  iintro ⟨Hv, Hu⟩
  imod (Rounds.fund_launch ER (Rd T) disjoint_cells (fun g _ h => h) rights) $$ [Hv Hu] with ⟨%κ, -, #Hinv, #Hr, Hat, Hopen, Htok⟩
  · isplitl [Hv]
    · iapply hv $$ Hv
    · iexact Hu
  imodintro
  iexists κ
  isplitr
  · unfold records
    isplitr; · iexact Hinv
    iexact Hr
  unfold linear
  iapply (Entails.of_eq (bigSep_sep' _ _ _).symm); isplitl [Hat]; · iapply hat $$ Hat
  iapply (Entails.of_eq (bigSep_sep' _ _ _).symm); isplitl [Hopen]; · iapply hopen $$ Hopen
  iapply (rights_eq (F := F)) $$ Htok

/-! ## Entering the region -/

/-- A device's cells opened: where each stands before the body. -/
theorem open_cells (T : Dev nD → FVec F S1x1024 .f32) (κ : GSem nD τ sig → ℕ) (c : Dev nD) :
    iprop(records T κ ∗ linear c ∗ bigSep Finset.univ fun k : Fin 6 => semVal ((c : Thread nD τ), osem k) 0)
      ⊢ (|={Set.univ}=> (tokens c ∗ places c) : sProp 𝕄) := by
  have hk (k : Fin 6) : iprop(records T κ ∗ openTok ER ((c : Thread nD τ), osem k) ∗ semVal ((c : Thread nD τ), osem k) 0)
      ⊢ (|={Set.univ}=> (atPos ER ((c : Thread nD τ), osem k) 0 ∅ 0 ∗ reached ER ((c : Thread nD τ), osem k) 0) : sProp 𝕄) := by
    iintro ⟨#HR, Ho, Hs⟩
    iapply (Rounds.cell_open ER (Rd T) (g := ((c : Thread nD τ), osem k)) (Set.mem_univ (κ ((c : Thread nD τ), osem k))))
    isplitr; · iapply (inv_at T κ (sc_mem c k)) $$ HR
    isplitl [Ho] <;> iassumption
  have hall : iprop(records T κ ∗ bigSep Finset.univ fun k : Fin 6 => iprop(openTok ER ((c : Thread nD τ), osem k) ∗ semVal ((c : Thread nD τ), osem k) 0))
      ⊢ (|={Set.univ}=> bigSep Finset.univ fun k : Fin 6 => iprop(atPos ER ((c : Thread nD τ), osem k) 0 ∅ 0 ∗ reached ER ((c : Thread nD τ), osem k) 0) : sProp 𝕄) :=
    BIBase.Entails.trans (bigSep_with_persistent fun k _ => hk k) (bigSep_fupd _ _)
  have hreach (j : ℕ) : (iprop(reached ER (recvCell c 0) 0 ∗ reached ER (recvCell c 1) 0 ∗ reached ER (recvCell c 2) 0) : sProp 𝕄)
      ⊢ reached ER (recvCell c j) 0 := by
    have e : recvCell c j = recvCell c 0 ∨ recvCell c j = recvCell c 1 ∨ recvCell c j = recvCell c 2 := by
      have h : ∀ j' : ℕ, recvCell c j' = recvCell c (j' % 3) := fun j' => by unfold recvCell recvS; simp only [Nat.mod_mod]
      rw [h j]
      have h3 : j % 3 < 3 := Nat.mod_lt _ (by decide)
      interval_cases j % 3
      · exact .inl rfl
      · exact .inr (.inl rfl)
      · exact .inr (.inr rfl)
    iintro ⟨#H0, #H1, #H2⟩
    rcases e with e | e | e <;> rw [e]
    · iexact H0
    · iexact H1
    · iexact H2
  unfold linear
  iintro ⟨#HR, ⟨HB, Ho, Ht⟩, Hs⟩
  ihave H := (Entails.of_eq (bigSep_sep' Finset.univ (fun k : Fin 6 => (openTok ER ((c : Thread nD τ), osem k) : sProp 𝕄)) (fun k : Fin 6 => semVal ((c : Thread nD τ), osem k) 0)).symm) $$ [Ho Hs]
  · isplitl [Ho] <;> iassumption
  imod hall $$ [H] with H
  · isplitr; · iexact HR
    iexact H
  imodintro
  isplitl [Ht]; · iexact Ht
  ihave H := (Entails.of_eq (six _)) $$ H
  icases H with ⟨⟨A0, #R0⟩, ⟨A1, #R1⟩, ⟨A2, #R2⟩, ⟨B0, #Q0⟩, ⟨B1, #Q1⟩, ⟨B2, #Q2⟩⟩
  unfold places
  rw [sendCell_eq c 0 (by decide), sendCell_eq c 1 (by decide), sendCell_eq c 2 (by decide)]
  isplitl [HB]; · iexact HB
  isplitl [A0 A1 A2]
  · isplitl [A0]; · iexact A0
    isplitl [A1]; · iexact A1
    iexact A2
  isplitl [B0 B1 B2]
  · isplitl [B0]; · iexact B0
    isplitl [B1]; · iexact B1
    iexact B2
  isplitr
  · isplitr; · iexact R0
    isplitr; · iexact R1
    iexact R2
  isplitr
  · iapply (hreach (nth c 0).val)
    isplitr; · iexact Q0
    isplitr; · iexact Q1
    iexact Q2
  isplitr
  · iapply (hreach (nth c 1).val)
    isplitr; · iexact Q0
    isplitr; · iexact Q1
    iexact Q2
  iapply (hreach (nth c 2).val)
  isplitr; · iexact Q0
  isplitr; · iexact Q1
  iexact Q2

end Cert.ScanProof
-- ==== Proof.Finish.lean ====
/-
  The two ends of the body: the argument taken apart into the eight bands the input copies read and put together again,
  the local copies' semaphores, and what is left when the body returns: the output, the offset, every counter at zero.
-/
module

public import proofs.«01_k».proof.Proof.Offset
public import proofs.«01_k».proof.Proof.Deal

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The argument in bands -/

/-- The rows of band k. -/
def bandSet (k : ℕ) : Finset S8192x1024.Idx := Finset.univ.filter fun i => (i 0).val / 1024 = k

theorem band_set (k o : ℕ) (ho : o = 1024 * k) (h : ∀ a, (![o, 0] : Fin 2 → ℕ) a + S1024x1024.size a ≤ S8192x1024.size a) :
    (xM.slice (Rect.unit (s := S8192x1024) ![o, 0] S1024x1024.size h) (fun _ => rfl)).view.set = bandSet k := by
  subst ho
  refine (View.set_slice_whole _ _).trans ?_
  ext i
  rw [Rect.mem_set_unit]
  unfold bandSet
  simp only [Finset.mem_filter, Finset.mem_univ, _root_.true_and]
  constructor
  · intro hm
    have := hm 0
    have h1 : 1024 * k ≤ (i 0).val := this.1
    have h2 : (i 0).val < 1024 * k + 1024 := this.2
    omega
  · intro hm a
    match a with
    | 0 =>
      show 1024 * k ≤ (i 0).val ∧ (i 0).val < 1024 * k + 1024
      omega
    | 1 =>
      have : (i 1).val < 1024 := (i 1).isLt
      show 0 ≤ (i 1).val ∧ (i 1).val < 0 + 1024
      omega

/-- Band k of the argument, as the copy that reads it names it. -/
theorem band_eq (c : Dev nD) (fx : Buf (Elt F) ((c : Thread nD τ).loc main_arg0)) (k o : ℕ) (ho : o = 1024 * k)
    (h : ∀ a, (![o, 0] : Fin 2 → ℕ) a + S1024x1024.size a ≤ S8192x1024.size a) :
    ((c : Thread nD τ).loc main_arg0 ↦[bandSet k]{fullShare} fx : sProp 𝕄)
      = ((xM.slice (Rect.unit (s := S8192x1024) ![o, 0] S1024x1024.size h) (fun _ => rfl)).view.loc (c : Thread nD τ)
          ↦[(xM.slice (Rect.unit (s := S8192x1024) ![o, 0] S1024x1024.size h) (fun _ => rfl)).view.set]{fullShare} fx) :=
  congrArg (fun I => ((c : Thread nD τ).loc main_arg0 ↦[I]{fullShare} fx : sProp 𝕄)) (band_set k o ho h).symm

/-- A row is in the band its number divided by 1024 names. -/
theorem mem_band (k : ℕ) (i : S8192x1024.Idx) : i ∈ bandSet k ↔ (i 0).val / 1024 = k := by
  unfold bandSet
  simp only [Finset.mem_filter, Finset.mem_univ, _root_.true_and]

theorem bands_disjoint (a b : Fin 8) (h : a ≠ b) : Disjoint (bandSet a.val) (bandSet b.val) :=
  Finset.disjoint_left.mpr fun i ha hb => h (Fin.ext (((mem_band _ i).mp ha).symm.trans ((mem_band _ i).mp hb)))

theorem bands_cover : (Finset.univ : Finset (Fin 8)).biUnion (fun k => bandSet k.val) = Finset.univ := by
  refine Finset.eq_univ_iff_forall.mpr fun i => Finset.mem_biUnion.mpr ?_
  have h : (i 0).val < 8192 := (i 0).isLt
  exact ⟨⟨(i 0).val / 1024, by omega⟩, Finset.mem_univ _, (mem_band _ i).mpr (Eq.refl ((i 0).val / 1024))⟩

/-- The argument is its eight bands. -/
theorem bands_eq (c : Dev nD) (fx : Buf (Elt F) ((c : Thread nD τ).loc main_arg0)) :
    ((c : Thread nD τ).loc main_arg0 ↦{fullShare} fx : sProp 𝕄)
      = iprop(((xM.slice (Rect.unit (s := S8192x1024) ![0, 0] S1024x1024.size inb_S8192x1024_S1024x1024_0_0) (fun _ => rfl)).view.loc (c : Thread nD τ) ↦[(xM.slice (Rect.unit (s := S8192x1024) ![0, 0] S1024x1024.size inb_S8192x1024_S1024x1024_0_0) (fun _ => rfl)).view.set]{fullShare} fx)
        ∗ ((xM.slice (Rect.unit (s := S8192x1024) ![1024, 0] S1024x1024.size inb_S8192x1024_S1024x1024_1024_0) (fun _ => rfl)).view.loc (c : Thread nD τ) ↦[(xM.slice (Rect.unit (s := S8192x1024) ![1024, 0] S1024x1024.size inb_S8192x1024_S1024x1024_1024_0) (fun _ => rfl)).view.set]{fullShare} fx)
        ∗ ((xM.slice (Rect.unit (s := S8192x1024) ![2048, 0] S1024x1024.size inb_S8192x1024_S1024x1024_2048_0) (fun _ => rfl)).view.loc (c : Thread nD τ) ↦[(xM.slice (Rect.unit (s := S8192x1024) ![2048, 0] S1024x1024.size inb_S8192x1024_S1024x1024_2048_0) (fun _ => rfl)).view.set]{fullShare} fx)
        ∗ ((xM.slice (Rect.unit (s := S8192x1024) ![3072, 0] S1024x1024.size inb_S8192x1024_S1024x1024_3072_0) (fun _ => rfl)).view.loc (c : Thread nD τ) ↦[(xM.slice (Rect.unit (s := S8192x1024) ![3072, 0] S1024x1024.size inb_S8192x1024_S1024x1024_3072_0) (fun _ => rfl)).view.set]{fullShare} fx)
        ∗ ((xM.slice (Rect.unit (s := S8192x1024) ![4096, 0] S1024x1024.size inb_S8192x1024_S1024x1024_4096_0) (fun _ => rfl)).view.loc (c : Thread nD τ) ↦[(xM.slice (Rect.unit (s := S8192x1024) ![4096, 0] S1024x1024.size inb_S8192x1024_S1024x1024_4096_0) (fun _ => rfl)).view.set]{fullShare} fx)
        ∗ ((xM.slice (Rect.unit (s := S8192x1024) ![5120, 0] S1024x1024.size inb_S8192x1024_S1024x1024_5120_0) (fun _ => rfl)).view.loc (c : Thread nD τ) ↦[(xM.slice (Rect.unit (s := S8192x1024) ![5120, 0] S1024x1024.size inb_S8192x1024_S1024x1024_5120_0) (fun _ => rfl)).view.set]{fullShare} fx)
        ∗ ((xM.slice (Rect.unit (s := S8192x1024) ![6144, 0] S1024x1024.size inb_S8192x1024_S1024x1024_6144_0) (fun _ => rfl)).view.loc (c : Thread nD τ) ↦[(xM.slice (Rect.unit (s := S8192x1024) ![6144, 0] S1024x1024.size inb_S8192x1024_S1024x1024_6144_0) (fun _ => rfl)).view.set]{fullShare} fx)
        ∗ ((xM.slice (Rect.unit (s := S8192x1024) ![7168, 0] S1024x1024.size inb_S8192x1024_S1024x1024_7168_0) (fun _ => rfl)).view.loc (c : Thread nD τ) ↦[(xM.slice (Rect.unit (s := S8192x1024) ![7168, 0] S1024x1024.size inb_S8192x1024_S1024x1024_7168_0) (fun _ => rfl)).view.set]{fullShare} fx)) := by
  refine (Ring.pointsTo_blocks (fun k : Fin 8 => (bandSet k.val : Finset (Idx ((c : Thread nD τ).loc main_arg0))))
      bands_disjoint bands_cover fx).trans
    ((bigSep_univ_eq_bigSepL [0, 1, 2, 3, 4, 5, 6, 7] (by decide) (by decide) _).trans ?_)
  refine congrArg₂ BIBase.sep (band_eq c fx 0 0 rfl inb_S8192x1024_S1024x1024_0_0) ?_
  refine congrArg₂ BIBase.sep (band_eq c fx 1 1024 rfl inb_S8192x1024_S1024x1024_1024_0) ?_
  refine congrArg₂ BIBase.sep (band_eq c fx 2 2048 rfl inb_S8192x1024_S1024x1024_2048_0) ?_
  refine congrArg₂ BIBase.sep (band_eq c fx 3 3072 rfl inb_S8192x1024_S1024x1024_3072_0) ?_
  refine congrArg₂ BIBase.sep (band_eq c fx 4 4096 rfl inb_S8192x1024_S1024x1024_4096_0) ?_
  refine congrArg₂ BIBase.sep (band_eq c fx 5 5120 rfl inb_S8192x1024_S1024x1024_5120_0) ?_
  refine congrArg₂ BIBase.sep (band_eq c fx 6 6144 rfl inb_S8192x1024_S1024x1024_6144_0) ?_
  exact band_eq c fx 7 7168 rfl inb_S8192x1024_S1024x1024_7168_0

/-! ## The local copies' semaphores -/

/-- The four input and eight output semaphores of a device. -/
def lsem (k : Fin 12) : SemLoc sig := .dma ⟨1 + k.val, by
  have h : 1 + k.val < 19 := by have := k.isLt; omega
  exact h⟩

theorem lsems_eq (c : Dev nD) :
    (bigSep Finset.univ fun k : Fin 12 => (semVal ((c : Thread nD τ), lsem k) 0 : sProp 𝕄))
      = iprop(semVal ((c : Thread nD τ), .dma (1 : DmaSem sig)) 0
        ∗ semVal ((c : Thread nD τ), .dma (2 : DmaSem sig)) 0
        ∗ semVal ((c : Thread nD τ), .dma (3 : DmaSem sig)) 0
        ∗ semVal ((c : Thread nD τ), .dma (4 : DmaSem sig)) 0
        ∗ semVal ((c : Thread nD τ), .dma (5 : DmaSem sig)) 0
        ∗ semVal ((c : Thread nD τ), .dma (6 : DmaSem sig)) 0
        ∗ semVal ((c : Thread nD τ), .dma (7 : DmaSem sig)) 0
        ∗ semVal ((c : Thread nD τ), .dma (8 : DmaSem sig)) 0
        ∗ semVal ((c : Thread nD τ), .dma (9 : DmaSem sig)) 0
        ∗ semVal ((c : Thread nD τ), .dma (10 : DmaSem sig)) 0
        ∗ semVal ((c : Thread nD τ), .dma (11 : DmaSem sig)) 0
        ∗ semVal ((c : Thread nD τ), .dma (12 : DmaSem sig)) 0) :=
  bigSep_univ_eq_bigSepL [0, 1, 2, 3, 4, 5, 6, 7, 8, 9, 10, 11] (by decide) (by decide) _

/-! ## What the body leaves -/

/-- The output after the thirty-two output copies. -/
theorem out_done (c : Dev nD) (fx : Arg F) (fo : Buf (Elt F) (oM.view.loc (c : Thread nD τ)))
    (Lp : List (View.Piece (Elt F) S8192x1024 .bf16)) :
    iprop((oM.view.loc (c : Thread nD τ) ↦{fullShare} oM.view.writes (Elt F) fo Lp) ∗ ⌜Lp = tiles fx 32 (le_refl 32)⌝)
      ⊢ (oM.view.loc (c : Thread nD τ) ↦{fullShare} outVal fx : sProp 𝕄) := by
  iintro ⟨H, %e⟩
  subst e
  rw [writes_tiles fx fo]
  iexact H

theorem row_read (j : Fin 3) (h : ∀ a, (![j.val, 0, 0] : Fin 3 → ℕ) a + S1x1x1024.size a ≤ S3x1x1024.size a) (f : S3x1x1024.Idx → F .f32) :
    View.readAt (Elt F) rM.view (Rect.unit (s := S3x1x1024) ![j.val, 0, 0] S1x1x1024.size h).toLoadRect f = rowAt j f := by
  funext i
  have i0 : (i 0).val < 1 := (i 0).isLt
  have i1 : (i 1).val < 1 := (i 1).isLt
  show f ((Rect.unit (s := S3x1x1024) ![j.val, 0, 0] S1x1x1024.size h).emb i) = f (ix3 j (i 1) (i 2))
  congr 1
  funext a
  apply Fin.ext
  match a with
  | 0 => show j.val + 1 * (i 0).val = j.val; omega
  | 1 => show 0 + 1 * (i 1).val = (i 1).val; omega
  | 2 => show 0 + 1 * (i 2).val = (i 2).val; omega

/-- The offset after its one store. -/
theorem off_done (c : Dev nD) (T : Dev nD → FVec F S1x1024 .f32) (f : S3x1x1024.Idx → F .f32)
    (hf : ∀ i : S3x1x1024.Idx, (i 0).val < c.val → f i = rowsOf T i) (ff : Buf (Elt F) (fM.view.loc (c : Thread nD τ)))
    (h : ∀ a, (![0, 0] : Fin 2 → ℕ) a + S1x1024.size a ≤ S1x1024.size a)
    (h0 : ∀ a, (![0, 0, 0] : Fin 3 → ℕ) a + S1x1x1024.size a ≤ S3x1x1024.size a)
    (h1 : ∀ a, (![1, 0, 0] : Fin 3 → ℕ) a + S1x1x1024.size a ≤ S3x1x1024.size a)
    (h2 : ∀ a, (![2, 0, 0] : Fin 3 → ℕ) a + S1x1x1024.size a ≤ S3x1x1024.size a) :
    (fM.view.loc (c : Thread nD τ) ↦{fullShare} fM.view.writes (Elt F) ff [⟨Rect.unit (s := S1x1024) ![0, 0] S1x1024.size h,
        k0_pay88 (placeW c) (View.readAt (Elt F) rM.view (Rect.unit (s := S3x1x1024) ![0, 0, 0] S1x1x1024.size h0).toLoadRect f)
          (View.readAt (Elt F) rM.view (Rect.unit (s := S3x1x1024) ![1, 0, 0] S1x1x1024.size h1).toLoadRect f)
          (View.readAt (Elt F) rM.view (Rect.unit (s := S3x1x1024) ![2, 0, 0] S1x1x1024.size h2).toLoadRect f)⟩] : sProp 𝕄)
      ⊢ (fM.view.loc (c : Thread nD τ) ↦{fullShare} offVal c T) := by
  rw [show View.readAt (Elt F) rM.view (Rect.unit (s := S3x1x1024) ![0, 0, 0] S1x1x1024.size h0).toLoadRect f = rowAt 0 f from row_read 0 h0 f,
    show View.readAt (Elt F) rM.view (Rect.unit (s := S3x1x1024) ![1, 0, 0] S1x1x1024.size h1).toLoadRect f = rowAt 1 f from row_read 1 h1 f,
    show View.readAt (Elt F) rM.view (Rect.unit (s := S3x1x1024) ![2, 0, 0] S1x1x1024.size h2).toLoadRect f = rowAt 2 f from row_read 2 h2 f,
    off_eq c T f hf]
  have e : fM.view.writes (Elt F) ff [⟨Rect.unit (s := S1x1024) ![0, 0] S1x1024.size h, offVal c T⟩] = offVal c T :=
    (View.read_whole (Val := Elt F) cc0_stg0_0 _).symm.trans (View.read_writes_full (Val := Elt F) fM.view ff h (offVal c T) [])
  rw [e]

/-- Every cell closed, its counter back at zero. -/
theorem all_close (T : Dev nD → FVec F S1x1024 .f32) (κ : GSem nD τ sig → ℕ) (c : Dev nD) :
    iprop(records T κ ∗ atPos ER (barCell c) 1 ∅ 0
        ∗ (spent T (sendCell c 0) ∗ spent T (sendCell c 1) ∗ spent T (sendCell c 2))
        ∗ (spent T (recvCell c 0) ∗ spent T (recvCell c 1) ∗ spent T (recvCell c 2)))
      ⊢ (|={Set.univ}=> (semVal (barCell c) 0 ∗ bigSep Finset.univ fun k : Fin 6 => semVal ((c : Thread nD τ), osem k) 0) : sProp 𝕄) := by
  have hs (t : ℕ) (ht : t < 3) := spent_close T κ (send_mem c t ht)
  have hr (t : ℕ) (ht : t < 3) := spent_close T κ (recv_mem c t ht)
  iintro ⟨#HR, HB, ⟨A0, A1, A2⟩, ⟨B0, B1, B2⟩⟩
  ihave HB := (bar_spent T c) $$ HB
  imod (spent_close T κ (bar_mem c)) $$ [HB] with HB
  · isplitr; · iexact HR
    iexact HB
  imod (hs 0 (by decide)) $$ [A0] with A0
  · isplitr; · iexact HR
    iexact A0
  imod (hs 1 (by decide)) $$ [A1] with A1
  · isplitr; · iexact HR
    iexact A1
  imod (hs 2 (by decide)) $$ [A2] with A2
  · isplitr; · iexact HR
    iexact A2
  imod (hr 0 (by decide)) $$ [B0] with B0
  · isplitr; · iexact HR
    iexact B0
  imod (hr 1 (by decide)) $$ [B1] with B1
  · isplitr; · iexact HR
    iexact B1
  imod (hr 2 (by decide)) $$ [B2] with B2
  · isplitr; · iexact HR
    iexact B2
  imodintro
  isplitl [HB]; · iexact HB
  rw [sendCell_eq c 0 (by decide), sendCell_eq c 1 (by decide), sendCell_eq c 2 (by decide),
    recvCell_eq c 0 (by decide), recvCell_eq c 1 (by decide), recvCell_eq c 2 (by decide)]
  iapply (Entails.of_eq (six (fun k : Fin 6 => (semVal ((c : Thread nD τ), osem k) 0 : sProp 𝕄))).symm)
  isplitl [A0]; · iexact A0
  isplitl [A1]; · iexact A1
  isplitl [A2]; · iexact A2
  isplitl [B0]; · iexact B0
  isplitl [B1]; · iexact B1
  iexact B2

/-- The buffers and counters after the body. -/
def left (c : Dev nD) (T : Dev nD → FVec F S1x1024 .f32) (fx : Buf (Elt F) ((c : Thread nD τ).loc main_arg0)) : sProp 𝕄 :=
  iprop(((c : Thread nD τ).loc main_arg0 ↦{fullShare} fx)
    ∗ (oM.view.loc (c : Thread nD τ) ↦{fullShare} outVal fx)
    ∗ (fM.view.loc (c : Thread nD τ) ↦{fullShare} offVal c T)
    ∗ (∃ f, gM.view.loc (c : Thread nD τ) ↦{fullShare} f)
    ∗ (∃ f, bM.view.loc (c : Thread nD τ) ↦{fullShare} f)
    ∗ (∃ f, sM.view.loc (c : Thread nD τ) ↦{fullShare} f)
    ∗ (∃ f, rM.view.loc (c : Thread nD τ) ↦{fullShare} f)
    ∗ (bigSep Finset.univ fun k : Fin 12 => semVal ((c : Thread nD τ), lsem k) 0)
    ∗ (bigSep Finset.univ fun k : Fin 6 => semVal ((c : Thread nD τ), osem k) 0)
    ∗ semVal (barCell c) 0
    ∗ ∃ W, owes (c : Thread nD τ) (0 : CellTallies nD τ sig Unit) W)

/-- Everything put together again. -/
theorem leave (c : Dev nD) (T : Dev nD → FVec F S1x1024 .f32) (fx : Buf (Elt F) ((c : Thread nD τ).loc main_arg0))
    (fg : Buf (Elt F) (gM.view.loc (c : Thread nD τ))) (fb : Buf (Elt F) (bM.view.loc (c : Thread nD τ)))
    (fs : Buf (Elt F) (sM.view.loc (c : Thread nD τ))) (fr : Buf (Elt F) (rM.view.loc (c : Thread nD τ))) :
    iprop((((xM.slice (Rect.unit (s := S8192x1024) ![0, 0] S1024x1024.size inb_S8192x1024_S1024x1024_0_0) (fun _ => rfl)).view.loc (c : Thread nD τ) ↦[(xM.slice (Rect.unit (s := S8192x1024) ![0, 0] S1024x1024.size inb_S8192x1024_S1024x1024_0_0) (fun _ => rfl)).view.set]{fullShare} fx)
          ∗ ((xM.slice (Rect.unit (s := S8192x1024) ![1024, 0] S1024x1024.size inb_S8192x1024_S1024x1024_1024_0) (fun _ => rfl)).view.loc (c : Thread nD τ) ↦[(xM.slice (Rect.unit (s := S8192x1024) ![1024, 0] S1024x1024.size inb_S8192x1024_S1024x1024_1024_0) (fun _ => rfl)).view.set]{fullShare} fx)
          ∗ ((xM.slice (Rect.unit (s := S8192x1024) ![2048, 0] S1024x1024.size inb_S8192x1024_S1024x1024_2048_0) (fun _ => rfl)).view.loc (c : Thread nD τ) ↦[(xM.slice (Rect.unit (s := S8192x1024) ![2048, 0] S1024x1024.size inb_S8192x1024_S1024x1024_2048_0) (fun _ => rfl)).view.set]{fullShare} fx)
          ∗ ((xM.slice (Rect.unit (s := S8192x1024) ![3072, 0] S1024x1024.size inb_S8192x1024_S1024x1024_3072_0) (fun _ => rfl)).view.loc (c : Thread nD τ) ↦[(xM.slice (Rect.unit (s := S8192x1024) ![3072, 0] S1024x1024.size inb_S8192x1024_S1024x1024_3072_0) (fun _ => rfl)).view.set]{fullShare} fx)
          ∗ ((xM.slice (Rect.unit (s := S8192x1024) ![4096, 0] S1024x1024.size inb_S8192x1024_S1024x1024_4096_0) (fun _ => rfl)).view.loc (c : Thread nD τ) ↦[(xM.slice (Rect.unit (s := S8192x1024) ![4096, 0] S1024x1024.size inb_S8192x1024_S1024x1024_4096_0) (fun _ => rfl)).view.set]{fullShare} fx)
          ∗ ((xM.slice (Rect.unit (s := S8192x1024) ![5120, 0] S1024x1024.size inb_S8192x1024_S1024x1024_5120_0) (fun _ => rfl)).view.loc (c : Thread nD τ) ↦[(xM.slice (Rect.unit (s := S8192x1024) ![5120, 0] S1024x1024.size inb_S8192x1024_S1024x1024_5120_0) (fun _ => rfl)).view.set]{fullShare} fx)
          ∗ ((xM.slice (Rect.unit (s := S8192x1024) ![6144, 0] S1024x1024.size inb_S8192x1024_S1024x1024_6144_0) (fun _ => rfl)).view.loc (c : Thread nD τ) ↦[(xM.slice (Rect.unit (s := S8192x1024) ![6144, 0] S1024x1024.size inb_S8192x1024_S1024x1024_6144_0) (fun _ => rfl)).view.set]{fullShare} fx)
          ∗ ((xM.slice (Rect.unit (s := S8192x1024) ![7168, 0] S1024x1024.size inb_S8192x1024_S1024x1024_7168_0) (fun _ => rfl)).view.loc (c : Thread nD τ) ↦[(xM.slice (Rect.unit (s := S8192x1024) ![7168, 0] S1024x1024.size inb_S8192x1024_S1024x1024_7168_0) (fun _ => rfl)).view.set]{fullShare} fx))
        ∗ (oM.view.loc (c : Thread nD τ) ↦{fullShare} outVal fx)
        ∗ (fM.view.loc (c : Thread nD τ) ↦{fullShare} offVal c T)
        ∗ (gM.view.loc (c : Thread nD τ) ↦{fullShare} fg)
        ∗ (bM.view.loc (c : Thread nD τ) ↦{fullShare} fb)
        ∗ (sM.view.loc (c : Thread nD τ) ↦{fullShare} fs)
        ∗ (rM.view.loc (c : Thread nD τ) ↦{fullShare} fr)
        ∗ (semVal ((c : Thread nD τ), .dma (1 : DmaSem sig)) 0
          ∗ semVal ((c : Thread nD τ), .dma (2 : DmaSem sig)) 0
          ∗ semVal ((c : Thread nD τ), .dma (3 : DmaSem sig)) 0
          ∗ semVal ((c : Thread nD τ), .dma (4 : DmaSem sig)) 0
          ∗ semVal ((c : Thread nD τ), .dma (5 : DmaSem sig)) 0
          ∗ semVal ((c : Thread nD τ), .dma (6 : DmaSem sig)) 0
          ∗ semVal ((c : Thread nD τ), .dma (7 : DmaSem sig)) 0
          ∗ semVal ((c : Thread nD τ), .dma (8 : DmaSem sig)) 0
          ∗ semVal ((c : Thread nD τ), .dma (9 : DmaSem sig)) 0
          ∗ semVal ((c : Thread nD τ), .dma (10 : DmaSem sig)) 0
          ∗ semVal ((c : Thread nD τ), .dma (11 : DmaSem sig)) 0
          ∗ semVal ((c : Thread nD τ), .dma (12 : DmaSem sig)) 0)
        ∗ (bigSep Finset.univ fun k : Fin 6 => semVal ((c : Thread nD τ), osem k) 0)
        ∗ semVal (barCell c) 0
        ∗ ∃ W, owes (c : Thread nD τ) (0 : CellTallies nD τ sig Unit) W)
      ⊢ left c T fx := by
  unfold left
  iintro ⟨Hx, Ho, Hf, Hg, Hb, Hs, Hr, HS, H6, HB, HO⟩
  isplitl [Hx]; · iapply (Entails.of_eq (bands_eq c fx).symm) $$ Hx
  isplitl [Ho]; · iexact Ho
  isplitl [Hf]; · iexact Hf
  isplitl [Hg]; · iexists fg; iexact Hg
  isplitl [Hb]; · iexists fb; iexact Hb
  isplitl [Hs]; · iexists fs; iexact Hs
  isplitl [Hr]; · iexists fr; iexact Hr
  isplitl [HS]; · iapply (Entails.of_eq (lsems_eq c).symm) $$ HS
  isplitl [H6]; · iexact H6
  isplitl [HB]; · iexact HB
  iexact HO

end Cert.ScanProof
-- ==== Proof.Body.lean ====
/-
  The kernel's body on one device.
-/
module

public import proofs.«01_k».proof.Proof.Finish

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

set_option maxHeartbeats 4000000 in
set_option sl_exec.dmaWindow true in
set_option sl_exec.dmaWindowLent true in
theorem body_run (c : Dev nD) (T : Dev nD → FVec F S1x1024 .f32) (κ : GSem nD τ sig → ℕ)
    (fx : Buf (Elt F) ((c : Thread nD τ).loc main_arg0)) (hT : T c = total fx)
    (fo : Buf (Elt F) ((c : Thread nD τ).loc main_v1_0)) (fg : Buf (Elt F) ((c : Thread nD τ).loc cc0_scratch0))
    (fb : Buf (Elt F) ((c : Thread nD τ).loc cc0_scratch1)) (fs : Buf (Elt F) ((c : Thread nD τ).loc cc0_scratch2))
    (fr : Buf (Elt F) ((c : Thread nD τ).loc cc0_scratch3)) (ff : Buf (Elt F) (fM.view.loc (c : Thread nD τ)))
    (W : Waits sig Unit) (K : PUnit → sProp 𝕄) :
    iprop(records T κ
        ∗ Transfers.MayWaits (c : Thread nD τ) () (owe0 c)
        ∗ ((c : Thread nD τ).loc main_arg0 ↦{fullShare} fx)
        ∗ (oM.view.loc (c : Thread nD τ) ↦{fullShare} fo)
        ∗ (gM.view.loc (c : Thread nD τ) ↦{fullShare} fg)
        ∗ (bM.view.loc (c : Thread nD τ) ↦{fullShare} fb)
        ∗ (sM.view.loc (c : Thread nD τ) ↦{fullShare} fs)
        ∗ (rM.view.loc (c : Thread nD τ) ↦{fullShare} fr)
        ∗ (fM.view.loc (c : Thread nD τ) ↦{fullShare} ff)
        ∗ (bigSep Finset.univ fun k : Fin 12 => semVal ((c : Thread nD τ), lsem k) 0)
        ∗ owes (c : Thread nD τ) (O₀ c) W
        ∗ tokens c
        ∗ creds c
        ∗ places c
        ∗ (left c T fx -∗ K ⟨⟩))
      ⊢ wp frame (wpE (defs₀ (F := F)) 𝒱₀ c none) Set.univ (body (F := F)) K := by
  iintro ⟨#HR, #HMW, Hx, Ho, Hg, Hb, Hs, Hr, Hf, HSS, HO, HT, HC, HP, HK⟩
  ihave Hx := (Entails.of_eq (bands_eq c fx)) $$ Hx
  icases Hx with ⟨Hx0, Hx1, Hx2, Hx3, Hx4, Hx5, Hx6, Hx7⟩
  ihave HSS := (Entails.of_eq (lsems_eq c)) $$ HSS
  icases HSS with ⟨HS0, HS1, HS2, HS3, HS4, HS5, HS6, HS7, HS8, HS9, HS10, HS11⟩
  unfold tokens creds places O₀
  icases HT with ⟨⟨HB0, HB1, HB2⟩, ⟨HTS0, HTS1, HTS2⟩, ⟨HTR0, HTR1, HTR2⟩⟩
  icases HC with ⟨HCB, HC0, HC1, HC2⟩
  icases HP with ⟨HPB, ⟨HPS0, HPS1, HPS2⟩, ⟨HPR0, HPR1, HPR2⟩, ⟨#HRS0, #HRS1, #HRS2⟩, #HRR0, #HRR1, #HRR2⟩
  ihave Hd := (rows_deal c fr) $$ Hr
  icases Hd with ⟨⟨HM0, HM1, HM2⟩, HL0, HL1, HL2⟩
  sl_exec_parts
  iapply (signal_step T κ c 0 (by decide) _ (Fin.ext (k0_dev1_eq c)) _ W _ _) $$ [HO HB0 HL0]
  · isplitr; · iexact HR
    isplitl [HO]; · iexact HO
    isplitl [HB0]; · iexact HB0
    isplitl [HL0]; · iexact HL0
    iexact HRR0
  iintro HO
  sl_exec_parts
  iapply (signal_step T κ c 1 (by decide) _ (Fin.ext (k0_dev2_eq c)) _ W _ _) $$ [HO HB1 HL1]
  · isplitr; · iexact HR
    isplitl [HO]; · iexact HO
    isplitl [HB1]; · iexact HB1
    isplitl [HL1]; · iexact HL1
    iexact HRR1
  iintro HO
  sl_exec_parts
  iapply (signal_step T κ c 2 (by decide) _ (Fin.ext (k0_dev3_eq c)) _ W _ _) $$ [HO HB2 HL2]
  · isplitr; · iexact HR
    isplitl [HO]; · iexact HO
    isplitl [HB2]; · iexact HB2
    isplitl [HL2]; · iexact HL2
    iexact HRR2
  iintro HO
  sl_exec_parts
  have htot : body_run.sl.v737 c fx fb = T c := by
    rw [hT]
    have h := @load_hit F _
    have h' := @load_miss F _
    dsimp only [body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_4, body_run.sl.r_5, body_run.sl.r_6, body_run.sl.r_7, body_run.sl.r_8, body_run.sl.r_9, body_run.sl.v122, body_run.sl.v138, body_run.sl.v154, body_run.sl.v170, body_run.sl.v201, body_run.sl.v222, body_run.sl.v243, body_run.sl.v264, body_run.sl.v295, body_run.sl.v316, body_run.sl.v337, body_run.sl.v358, body_run.sl.v389, body_run.sl.v410, body_run.sl.v431, body_run.sl.v452, body_run.sl.v478, body_run.sl.v48, body_run.sl.v499, body_run.sl.v520, body_run.sl.v541, body_run.sl.v567, body_run.sl.v588, body_run.sl.v609, body_run.sl.v630, body_run.sl.v64, body_run.sl.v656, body_run.sl.v677, body_run.sl.v698, body_run.sl.v719, body_run.sl.v80, body_run.sl.v96, body_run.sl.v734, body_run.sl.v737, body_run.sl.dma0, body_run.sl.dma0_1, body_run.sl.dma0_2, body_run.sl.dma0_3, body_run.sl.dma12_1, body_run.sl.dma24_1, body_run.sl.dma36_1, body_run.sl.dma48_1] at h h' ⊢
    simp (decide := true) only [h, h']
    rfl
  iapply (bar_step T κ c (owe0 c) _ _ _) $$ [HO HCB HPB]
  · isplitr; · iexact HR
    isplitr; · iexact HMW
    isplitl [HO]; · iexact HO
    isplitl [HCB]; · iexact HCB
    iexact HPB
  iintro ⟨⟨%W', HO⟩, HPB, HG0, HG1, HG2⟩
  sl_exec_parts
  ihave Hs3 := (tot_of c T fs _ _ htot) $$ Hs
  icases Hs3 with ⟨Hs0, Hs1, Hs2⟩
  unfold owe0
  iapply (send_step T κ c 0 (by decide) _ (cond1_iff c) _ (dev4_nth c) _ (k0_off2_eq c) (k0_off2_inb c) _ (send_sem 0 _) _ (fun h => recv_sem c _ (k0_off1_eq c) (k0_off1_inb c h)) _ _ _ _ _ _ _ _) $$ [HO Hs0 HTS0 HTR0 HG0]
  · isplitr; · iexact HR
    isplitl [HO]; · iexact HO
    isplitl [Hs0]; · iexact Hs0
    isplitl [HTS0]; · iexact HTS0
    isplitr; · iexact HRS0
    isplitl [HTR0]; · iexact HTR0
    iexact HG0
  iintro ⟨HO, Hs0⟩
  sl_exec_parts
  unfold owe1
  iapply (send_step T κ c 1 (by decide) _ (cond2_iff c) _ (dev5_nth c) _ (k0_off4_eq c) (k0_off4_inb c) _ (send_sem 1 _) _ (fun h => recv_sem c _ (k0_off3_eq c) (k0_off3_inb c h)) _ _ _ _ _ _ _ _) $$ [HO Hs1 HTS1 HTR1 HG1]
  · isplitr; · iexact HR
    isplitl [HO]; · iexact HO
    isplitl [Hs1]; · iexact Hs1
    isplitl [HTS1]; · iexact HTS1
    isplitr; · iexact HRS1
    isplitl [HTR1]; · iexact HTR1
    iexact HG1
  iintro ⟨HO, Hs1⟩
  sl_exec_parts
  unfold owe2
  iapply (send_step T κ c 2 (by decide) _ (cond3_iff c) _ (dev6_nth c) _ (k0_off6_eq c) (k0_off6_inb c) _ (send_sem 2 _) _ (fun h => recv_sem c _ (k0_off5_eq c) (k0_off5_inb c h)) _ _ _ _ _ _ _ _) $$ [HO Hs2 HTS2 HTR2 HG2]
  · isplitr; · iexact HR
    isplitl [HO]; · iexact HO
    isplitl [Hs2]; · iexact Hs2
    isplitl [HTS2]; · iexact HTS2
    isplitr; · iexact HRS2
    isplitl [HTR2]; · iexact HTR2
    iexact HG2
  iintro ⟨HO, Hs2⟩
  sl_exec_parts
  icases HO with HO
  ihave HO := (show (owes (c : Thread nD τ) (0 : CellTallies nD τ sig Unit) W' ⊢ iprop(∃ W, owes (c : Thread nD τ) (0 : CellTallies nD τ sig Unit) W)) from by iintro H; iexists W'; iexact H) $$ HO
  iapply (recv_step T κ c 0 (by decide) (body_run.sl.v752 c = 1#1) (gt0_iff c) _ (rowV ![0, 0, 0] inb_S3x1x1024_S1x1x1024_0_0_0) _ (recv_sem_at 0 _) rfl _ _ _ _) $$ [HO HC0 HM0 HPR0]
  · isplitr; · iexact HR
    isplitl [HO]; · iexact HO
    isplitl [HC0]; · iexact HC0
    isplitl [HM0]; · iexact HM0
    iexact HPR0
  iintro ⟨HO, HM0, HPR0⟩
  sl_exec_parts
  iapply (recv_step T κ c 1 (by decide) (body_run.sl.v755 c = 1#1) (gt1_iff c) _ (rowV ![1, 0, 0] inb_S3x1x1024_S1x1x1024_1_0_0) _ (recv_sem_at 1 _) rfl _ _ _ _) $$ [HO HC1 HM1 HPR1]
  · isplitr; · iexact HR
    isplitl [HO]; · iexact HO
    isplitl [HC1]; · iexact HC1
    isplitl [HM1]; · iexact HM1
    iexact HPR1
  iintro ⟨HO, HM1, HPR1⟩
  sl_exec_parts
  iapply (recv_step T κ c 2 (by decide) (body_run.sl.v758 c = 1#1) (gt2_iff c) _ (rowV ![2, 0, 0] inb_S3x1x1024_S1x1x1024_2_0_0) _ (recv_sem_at 2 _) rfl _ _ _ _) $$ [HO HC2 HM2 HPR2]
  · isplitr; · iexact HR
    isplitl [HO]; · iexact HO
    isplitl [HC2]; · iexact HC2
    isplitl [HM2]; · iexact HM2
    iexact HPR2
  iintro ⟨HO, HM2, HPR2⟩
  ihave Hr := (rows_join T c) $$ [HM0 HM1 HM2]
  · isplitl [HM0]; · iexact HM0
    isplitl [HM1]; · iexact HM1
    iexact HM2
  icases Hr with ⟨%f3, %hf3, Hr⟩
  icases HO with ⟨%W3, HO⟩
  ihave #HMZ := (show ((BI.emp : sProp 𝕄) ⊢ Transfers.MayWaits (c : Thread nD τ) () 0) from Transfers.MayWaits.zero (c : Thread nD τ) ()) $$ []
  · iempintro
  sl_exec_parts
  ihave HO := (show (owes (c : Thread nD τ) (0 : CellTallies nD τ sig Unit) _ ⊢ iprop(∃ W, owes (c : Thread nD τ) (0 : CellTallies nD τ sig Unit) W)) from by iintro H; iexists _; iexact H) $$ HO
  iapply (drain_step T κ c 0 (by decide) (k0_cond7 c = 1#1) (cond7_iff c) (fun h => rowV (k0_off7 c) (k0_off7_inb c h)) sM _ (send_sem 0 _) rfl _ _ _ _) $$ [HO Hs0 HPS0]
  · isplitr; · iexact HR
    isplitl [HO]; · iexact HO
    isplitl [Hs0]; · iexact Hs0
    iexact HPS0
  iintro ⟨HO, Hs0, HPS0⟩
  icases HO with ⟨%W4, HO⟩
  sl_exec_parts
  ihave HO := (show (owes (c : Thread nD τ) (0 : CellTallies nD τ sig Unit) _ ⊢ iprop(∃ W, owes (c : Thread nD τ) (0 : CellTallies nD τ sig Unit) W)) from by iintro H; iexists _; iexact H) $$ HO
  iapply (drain_step T κ c 1 (by decide) (k0_cond8 c = 1#1) (cond8_iff c) (fun h => rowV (k0_off8 c) (k0_off8_inb c h)) sM _ (send_sem 1 _) rfl _ _ _ _) $$ [HO Hs1 HPS1]
  · isplitr; · iexact HR
    isplitl [HO]; · iexact HO
    isplitl [Hs1]; · iexact Hs1
    iexact HPS1
  iintro ⟨HO, Hs1, HPS1⟩
  icases HO with ⟨%W5, HO⟩
  sl_exec_parts
  ihave HO := (show (owes (c : Thread nD τ) (0 : CellTallies nD τ sig Unit) _ ⊢ iprop(∃ W, owes (c : Thread nD τ) (0 : CellTallies nD τ sig Unit) W)) from by iintro H; iexists _; iexact H) $$ HO
  iapply (drain_step T κ c 2 (by decide) (k0_cond9 c = 1#1) (cond9_iff c) (fun h => rowV (k0_off9 c) (k0_off9_inb c h)) sM _ (send_sem 2 _) rfl _ _ _ _) $$ [HO Hs2 HPS2]
  · isplitr; · iexact HR
    isplitl [HO]; · iexact HO
    isplitl [Hs2]; · iexact Hs2
    iexact HPS2
  iintro ⟨HO, Hs2, HPS2⟩
  sl_exec_parts
  ihave Ho := (out_done c fx fo _) $$ [Ho]
  · isplitl [Ho]; · iexact Ho
    ipureintro
    have h := @load_hit F _
    have h' := @load_miss F _
    dsimp only [body_run.sl.Hg_1, body_run.sl.Hg_10, body_run.sl.Hg_11, body_run.sl.Hg_12, body_run.sl.Hg_13, body_run.sl.Hg_14, body_run.sl.Hg_15, body_run.sl.Hg_16, body_run.sl.Hg_17, body_run.sl.Hg_18, body_run.sl.Hg_19, body_run.sl.Hg_2, body_run.sl.Hg_20, body_run.sl.Hg_21, body_run.sl.Hg_22, body_run.sl.Hg_23, body_run.sl.Hg_24, body_run.sl.Hg_25, body_run.sl.Hg_26, body_run.sl.Hg_27, body_run.sl.Hg_28, body_run.sl.Hg_29, body_run.sl.Hg_3, body_run.sl.Hg_30, body_run.sl.Hg_31, body_run.sl.Hg_32, body_run.sl.Hg_4, body_run.sl.Hg_5, body_run.sl.Hg_6, body_run.sl.Hg_7, body_run.sl.Hg_8, body_run.sl.Hg_9, body_run.sl.r, body_run.sl.r_1, body_run.sl.r_10, body_run.sl.r_11, body_run.sl.r_12, body_run.sl.r_13, body_run.sl.r_14, body_run.sl.r_15, body_run.sl.r_16, body_run.sl.r_17, body_run.sl.r_18, body_run.sl.r_19, body_run.sl.r_2, body_run.sl.r_20, body_run.sl.r_21, body_run.sl.r_22, body_run.sl.r_23, body_run.sl.r_24, body_run.sl.r_25, body_run.sl.r_26, body_run.sl.r_27, body_run.sl.r_28, body_run.sl.r_29, body_run.sl.r_3, body_run.sl.r_30, body_run.sl.r_31, body_run.sl.r_32, body_run.sl.r_33, body_run.sl.r_4, body_run.sl.r_5, body_run.sl.r_6, body_run.sl.r_7, body_run.sl.r_8, body_run.sl.r_9, body_run.sl.v122, body_run.sl.v138, body_run.sl.v154, body_run.sl.v170, body_run.sl.v201, body_run.sl.v222, body_run.sl.v243, body_run.sl.v264, body_run.sl.v295, body_run.sl.v316, body_run.sl.v337, body_run.sl.v358, body_run.sl.v389, body_run.sl.v410, body_run.sl.v431, body_run.sl.v452, body_run.sl.v478, body_run.sl.v48, body_run.sl.v499, body_run.sl.v520, body_run.sl.v541, body_run.sl.v567, body_run.sl.v588, body_run.sl.v609, body_run.sl.v630, body_run.sl.v64, body_run.sl.v656, body_run.sl.v677, body_run.sl.v698, body_run.sl.v719, body_run.sl.v80, body_run.sl.v96, body_run.sl.v728, body_run.sl.dma0, body_run.sl.dma0_1, body_run.sl.dma0_2, body_run.sl.dma0_3, body_run.sl.dma12_1, body_run.sl.dma24_1, body_run.sl.dma36_1, body_run.sl.dma48_1, body_run.sl.dma3, body_run.sl.dma6, body_run.sl.dma9, body_run.sl.dma12, body_run.sl.dma15, body_run.sl.dma18, body_run.sl.dma21, body_run.sl.dma24, body_run.sl.dma27, body_run.sl.dma30, body_run.sl.dma33, body_run.sl.dma36, body_run.sl.dma39, body_run.sl.dma42, body_run.sl.dma45, body_run.sl.dma48, body_run.sl.dma51, body_run.sl.dma54, body_run.sl.dma57, body_run.sl.dma60, body_run.sl.dma63, body_run.sl.dma66, body_run.sl.dma69, body_run.sl.dma72, body_run.sl.dma75, body_run.sl.dma78, body_run.sl.dma81, body_run.sl.dma84, body_run.sl.dma87, body_run.sl.dma90, body_run.sl.dma93, body_run.sl.dma96] at h h' ⊢
    simp (decide := true) only [h, h']
    iterate 32 refine tile_cons fx _ _ _ _ _ _ rfl (stage_eq _ _ _ _ _ _ _ rfl) ?_
    rfl
  ihave Hf := (off_done c T f3 hf3 ff _ _ _ _) $$ [Hf]
  · iexact Hf
  ihave Hs := (tot_split c (T c)).2 $$ [Hs0 Hs1 Hs2]
  · isplitl [Hs0]; · iexact Hs0
    isplitl [Hs1]; · iexact Hs1
    iexact Hs2
  rw [wp_ret]
  imod (all_close T κ c) $$ [HPB HPS0 HPS1 HPS2 HPR0 HPR1 HPR2] with ⟨HB, H6⟩
  · isplitr; · iexact HR
    isplitl [HPB]; · iexact HPB
    isplitl [HPS0 HPS1 HPS2]
    · isplitl [HPS0]; · iexact HPS0
      isplitl [HPS1]; · iexact HPS1
      iexact HPS2
    isplitl [HPR0]; · iexact HPR0
    isplitl [HPR1]; · iexact HPR1
    iexact HPR2
  imodintro
  iapply HK
  iapply (leave c T fx _ _ _ _)
  isplitl [Hx0 Hx1 Hx2 Hx3 Hx4 Hx5 Hx6 Hx7]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Ho]; · iexact Ho
  isplitl [Hf]; · iexact Hf
  isplitl [Hg]; · iexact Hg
  isplitl [Hb]; · iexact Hb
  isplitl [Hs]; · iexact Hs
  isplitl [Hr]; · iexact Hr
  isplitl [HS0 HS1 HS2 HS3 HS4 HS5 HS6 HS7 HS8 HS9 HS10 HS11]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iexact HS11
  isplitl [H6]; · iexact H6
  isplitl [HB]; · iexact HB
  iexact HO

end Cert.ScanProof
-- ==== Proof.Region.lean ====
/-
  The kernel's region on each device, entered and left with every buffer outside the kernel held: the argument kept, the
  output and the offset at what the body leaves.
-/
module

public import proofs.«01_k».proof.Proof.Body
public import proofs.«01_k».proof.Proof.Gen.KernelIdeal.Frame

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The argument of device c. -/
abbrev argOf (c : Dev nD) : Buf (Elt F) ((c : Thread nD τ).loc main_arg0) := m ((c : Thread nD τ).loc main_arg0)
/-- The column totals of device c. -/
def tot (c : Dev nD) : FVec F S1x1024 .f32 := total (argOf m c)

/-- The buffers before the region. -/
def V₁ (c : Dev nD) : Valuation τ sig (Elt F) := fun b => m (c, b)
/-- The buffers after it: the output and the offset written. -/
def V₂ (c : Dev nD) : Valuation τ sig (Elt F) :=
  Function.update (Function.update (V₁ m c) (Proc.devRef .tc main_v1_0) (outVal (argOf m c))) (Proc.devRef .tc main_v1_1) (offVal c (tot m))

theorem V₂_off (c : Dev nD) : V₂ m c (Proc.devRef .tc main_v1_1) = offVal c (tot m) := Function.update_self ..
theorem V₂_out (c : Dev nD) : V₂ m c (Proc.devRef .tc main_v1_0) = outVal (argOf m c) :=
  (Function.update_of_ne (by decide) ..).trans (Function.update_self ..)
theorem V₂_of_ne (c : Dev nD) (b : DevRef τ sig) (h0 : b ≠ Proc.devRef .tc main_v1_0) (h1 : b ≠ Proc.devRef .tc main_v1_1) :
    V₂ m c b = V₁ m c b :=
  (Function.update_of_ne h1 ..).trans (Function.update_of_ne h0 ..)

/-- The array of the window, the two buffers the body addresses itself, and the buffers of the region. -/
abbrev arrs : Finset (DevRef τ sig) := Pipeline.arrRefs spec0
def addressed : Finset (DevRef τ sig) := {Proc.devRef .tc main_arg0, Proc.devRef .tc main_v1_0}
def others : Finset (DevRef τ sig) := Pipeline.ucRefs τ sig \ arrs

theorem arrs_eq : (arrs : Finset (DevRef τ sig)) = {Proc.devRef .tc main_v1_1} := by decide
theorem addressed_sub : addressed ⊆ others := by decide
theorem arrs_sub : (arrs : Finset (DevRef τ sig)) ⊆ Pipeline.ucRefs τ sig := by decide

theorem addressed_eq (c : Dev nD) (V : Valuation τ sig (Elt F)) : (StableHlo.held (c : Thread nD τ) addressed V : sProp 𝕄)
    = iprop(((c : Thread nD τ).loc main_arg0 ↦{fullShare} V (Proc.devRef .tc main_arg0)) ∗ ((c : Thread nD τ).loc main_v1_0 ↦{fullShare} V (Proc.devRef .tc main_v1_0))) := by
  unfold StableHlo.held
  rw [bigSep_eq_bigSepL_of_eq [Proc.devRef .tc main_arg0, Proc.devRef .tc main_v1_0] (by decide) (by decide)]
  rfl

/-! ## The region's own semaphores -/

/-- The local copies' twelve and the sends' and receives' six. -/
def regSem : Fin 12 ⊕ Fin 6 → SemLoc sig := Sum.elim lsem osem
theorem regSem_facts : Pipeline.OwnSemFacts spec0 regSem := by decide

theorem regSems_eq (c : Dev nD) : (Pipeline.ownSems0 regSem c : sProp 𝕄)
    = iprop((bigSep Finset.univ fun k : Fin 12 => semVal ((c : Thread nD τ), lsem k) 0)
        ∗ bigSep Finset.univ fun k : Fin 6 => semVal ((c : Thread nD τ), osem k) 0) :=
  BI.bigSep_univ_sum (fun k => (semVal ((c : Thread nD τ), regSem k) 0 : sProp 𝕄))

/-! ## The invariant -/

/-- What comes to the region from the launch, and what it becomes once the cells are open. -/
def Tk (c : Dev nD) : sProp 𝕄 := iprop((∃ κ, records (tot m) κ ∗ linear c) ∗ creds c)
def Xk (c : Dev nD) : sProp 𝕄 :=
  iprop((∃ κ, records (tot m) κ ∗ tokens c ∗ places c) ∗ creds c
    ∗ (bigSep Finset.univ fun k : Fin 12 => semVal ((c : Thread nD τ), lsem k) 0) ∗ levAts L lv)
/-- What is left for the end. -/
def Yk (c : Dev nD) : sProp 𝕄 := semVal (barCell c) 0

/-- Before and after the one point. -/
def before (c : Dev nD) : sProp 𝕄 :=
  iprop(Pipeline.scopedRest spec0 c ∗ (∃ r, prngReg c r) ∗ StableHlo.held (c : Thread nD τ) addressed (V₁ m c) ∗ Xk m c)
def after (c : Dev nD) : sProp 𝕄 :=
  iprop(Pipeline.scopedRest spec0 c ∗ (∃ r, prngReg c r) ∗ StableHlo.held (c : Thread nD τ) addressed (V₂ m c)
    ∗ Pipeline.ownSems0 regSem c ∗ Yk c)

/-- The region's data: the offset's buffer as it was, then the offset; the launch's debt, then none. -/
def dat (c : Dev nD) : Dat τ (Elt F) Unit ℕ UU ℕ cfg0 c where
  A w := V₁ m c (Proc.devRef .tc (Pipeline.arrRef spec0 w))
  after w _ := match w with
    | 0 => offVal c (tot m)
  Φ t := if t.val = 0 then before m c else after m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat (F := F) m c).owed t0_0.castSucc = O₀ c := by
  show (if (t0_0.castSucc : Fin (cfg0.N + 1)).val = 0 then O₀ c else 0) = O₀ c
  exact if_pos rfl
theorem owed_last (c : Dev nD) : (dat (F := F) m c).owed t0_0.succ = 0 := by
  show (if (t0_0.succ : Fin (cfg0.N + 1)).val = 0 then O₀ c else 0) = 0
  exact if_neg (by decide)
theorem inv_first (c : Dev nD) : (dat (F := F) m c).Φ t0_0.castSucc = before m c := by
  show (if (t0_0.castSucc : Fin (cfg0.N + 1)).val = 0 then before m c else after m c) = before m c
  exact if_pos rfl
theorem inv_last (c : Dev nD) : (dat (F := F) m c).Φ t0_0.succ = after m c := by
  show (if (t0_0.succ : Fin (cfg0.N + 1)).val = 0 then before m c else after m c) = after m c
  exact if_neg (by decide)

theorem owes_enter (c : Dev nD) (t : Fin (cfg0.N + 1)) (O : CellTallies nD τ sig Unit) (h : (dat (F := F) m c).owed t = O) :
    (∃ W, owes (c : Thread nD τ) O W : sProp 𝕄) ⊢ (dat m c).owesAt () t := by
  unfold Dat.owesAt Pipeline.owesWithin Dat.bound
  rw [h]
  iintro ⟨%W, H⟩
  iexists W
  isplitr
  · ipureintro; exact fun _ _ => Or.inl trivial
  iexact H
theorem owes_leave (c : Dev nD) (t : Fin (cfg0.N + 1)) (O : CellTallies nD τ sig Unit) (h : (dat (F := F) m c).owed t = O) :
    (dat m c).owesAt () t ⊢ (∃ W, owes (c : Thread nD τ) O W : sProp 𝕄) := by
  unfold Dat.owesAt Pipeline.owesWithin
  rw [h]
  iintro ⟨%W, -, H⟩
  iexists W
  iexact H

/-- The window's staging buffer, as the window names it and as a whole buffer. -/
theorem staged_eq (c : Dev nD) (f : (cc0_stg0_0 : Ref sig .tc).ty.Contents (Elt F)) :
    (owns (c : Thread nD τ) fM fullShare f : sProp 𝕄) = (fM.view.loc (c : Thread nD τ) ↦{fullShare} f) :=
  owns_whole (Val := Elt F) (Ix := Unit) (Name := ℕ) (U := UU) (Lvl := ℕ) (c : Thread nD τ) cc0_stg0_0 fullShare f

/-- The body at the region's one point. -/
theorem body_point (c : Dev nD) : BodyObligation (dat (F := F) m c) defs₀ 𝒱₀ () Set.univ := fun t => by
  obtain rfl := fin_N0 t
  rw [bigSep_W0, bigSep_W0]
  rw [inv_first, inv_last]
  simp only
  unfold before after Xk Yk
  rw [scopedRest0_eq, addressed_eq, addressed_eq, regSems_eq]
  iintro ⟨⟨⟨⟨%fg, Hg⟩, ⟨%fb, Hb⟩, ⟨%fs, Hs⟩, ⟨%fr, Hr⟩⟩, Hp, ⟨Hx, Ho⟩, ⟨⟨%κ, #HR, HT, HP⟩, HC, HSS, #Hlev⟩⟩, HO, ⟨%d, Hf⟩⟩
  ihave HO := (owes_leave m c _ (O₀ c) (owed_first m c)) $$ HO
  icases HO with ⟨%W, HO⟩
  ihave #HMW := (mayWaits (F := F) c) $$ Hlev
  iapply (body_run c (tot m) κ (argOf m c) rfl _ fg fb fs fr _ W _)
  isplitr; · iexact HR
  isplitr; · iexact HMW
  isplitl [Hx]; · iexact Hx
  isplitl [Ho]; · iexact Ho
  isplitl [Hg]; · iexact Hg
  isplitl [Hb]; · iexact Hb
  isplitl [Hs]; · iexact Hs
  isplitl [Hr]; · iexact Hr
  isplitl [Hf]; · iapply (Entails.of_eq (staged_eq c _)) $$ Hf
  isplitl [HSS]; · iexact HSS
  isplitl [HO]; · iexact HO
  isplitl [HT]; · iexact HT
  isplitl [HC]; · iexact HC
  isplitl [HP]; · iexact HP
  unfold left
  iintro ⟨Hx, Ho, Hf, Hg, Hb, Hs, Hr, HSS, H6, HB, HO⟩
  isplitr [HO Hf]
  · isplitl [Hg Hb Hs Hr]
    · isplitl [Hg]; · iexact Hg
      isplitl [Hb]; · iexact Hb
      isplitl [Hs]; · iexact Hs
      iexact Hr
    isplitl [Hp]; · iexact Hp
    isplitl [Hx Ho]
    · isplitl [Hx]
      · rw [V₂_of_ne m c (Proc.devRef .tc main_arg0) (by decide) (by decide)]; iexact Hx
      · rw [V₂_out]; iexact Ho
    isplitl [HSS H6]
    · isplitl [HSS]; · iexact HSS
      iexact H6
    iexact HB
  isplitl [HO]; · iapply (owes_enter m c _ 0 (owed_last m c)) $$ HO
  iapply (Entails.of_eq (staged_eq c _).symm) $$ Hf

end Cert.ScanProof
-- ==== Proof.Run.lean ====
/-
  The whole program: the region, then the three host operations that add the offset; every device's argument unchanged,
  its result the output plus the offset, every counter of the machine at zero.
-/
module

public import proofs.«01_k».proof.Proof.Region

@[expose] public section

set_option maxRecDepth 16384

noncomputable section

namespace Cert.ScanProof

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

theorem open_region (c : Dev nD) :
    iprop(Tk m c ∗ Pipeline.ownSems0 regSem c ∗ levAts L lv) ⊢ (|={Set.univ}=> Xk m c : sProp 𝕄) := by
  rw [regSems_eq]
  unfold Tk Xk
  iintro ⟨⟨⟨%κ, #HR, Hl⟩, HC⟩, ⟨HSS, H6⟩, #Hlev⟩
  imod (open_cells (tot m) κ c) $$ [Hl H6] with ⟨HT, HP⟩
  · isplitr; · iexact HR
    isplitl [Hl]; · iexact Hl
    iexact H6
  imodintro
  isplitl [HT HP]
  · iexists κ
    isplitr; · iexact HR
    isplitl [HT]; · iexact HT
    iexact HP
  isplitl [HC]; · iexact HC
  isplitl [HSS]; · iexact HSS
  iexact Hlev

theorem owed_zero (c : Dev nD) : (pdats (F := F) m 0 c).owed 0 = O₀ c := by
  show (if ((0 : Fin (cfg0.N + 1)).val = 0) then O₀ c else 0) = O₀ c
  exact if_pos rfl
theorem owed_end (c : Dev nD) : (pdats (F := F) m 0 c).owed (Fin.last _) = 0 := by
  show (if (Fin.last cfg0.N).val = 0 then O₀ c else 0) = 0
  rw [Fin.val_last, if_neg (by rw [show cfg0.N = 1 from N_0]; decide)]
theorem inv_zero (c : Dev nD) : (pdats (F := F) m 0 c).Φ 0 = before m c := by
  show (if ((0 : Fin (cfg0.N + 1)).val = 0) then before m c else after m c) = before m c
  exact if_pos rfl
theorem inv_end (c : Dev nD) : (pdats (F := F) m 0 c).Φ (Fin.last _) = after m c := by
  show (if (Fin.last cfg0.N).val = 0 then before m c else after m c) = after m c
  rw [Fin.val_last, if_neg (by rw [show cfg0.N = 1 from N_0]; decide)]

/-- What a device owes lies above the staging semaphore. -/
theorem O₀_above (c : Dev nD) (g : GSem nD τ sig) (i : Unit) (h : 0 < O₀ c g i) : i ∈ L g ∧ 0 < lv g i := by
  have hb (e : Dev nD) : () ∈ L (barCell e) ∧ 0 < lv (barCell e) () :=
    ⟨by rw [L_tc]; exact Finset.mem_singleton_self _, Nat.one_pos⟩
  have hu (e : Dev nD) (h : 0 < (tallyAt (barCell e) () 1 : CellTallies nD τ sig Unit) g i) : i ∈ L g ∧ 0 < lv g i := by
    by_cases hg : g = barCell e
    · subst hg; exact hb e
    · exact absurd h (by rw [tallyAt_ne_cell hg]; exact Nat.lt_irrefl 0)
  have h' : 0 < owe0 c g i + (tallyAt (barCell (nth c 2)) () 1 : CellTallies nD τ sig Unit) g i
      + (tallyAt (barCell (nth c 1)) () 1 : CellTallies nD τ sig Unit) g i
      + (tallyAt (barCell (nth c 0)) () 1 : CellTallies nD τ sig Unit) g i := h
  by_cases h0 : 0 < owe0 c g i
  · obtain ⟨e, -, rfl⟩ := owe0_cell c g i h0
    refine ⟨by rw [L_tc]; exact Finset.mem_singleton_self _, ?_⟩
    have hl : lv (recvCell e c.val) i = 2 + e.val := by
      show (if 16 ≤ 16 + c.val % 3 then 2 + e.val else 0) = 2 + e.val
      exact if_pos (by omega)
    rw [hl]; omega
  by_cases h2 : 0 < (tallyAt (barCell (nth c 2)) () 1 : CellTallies nD τ sig Unit) g i
  · exact hu _ h2
  by_cases h1 : 0 < (tallyAt (barCell (nth c 1)) () 1 : CellTallies nD τ sig Unit) g i
  · exact hu _ h1
  · exact hu (nth c 0) (by omega)

theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then O₀ c else 0 from rfl] at h
  split at h
  · exact O₀_above c g i h
  · exact absurd h (Nat.lt_irrefl 0)

theorem enter_inv (c : Dev nD) : iprop(Pipeline.scopedRest (Pipeline.pin (pcfgs (F := F)) adm 0).spec c ∗ (∃ r, prngReg c r)
      ∗ StableHlo.held (c.tc : Thread nD τ) addressed (V₁ m c) ∗ Xk m c) ⊢ (pdats m 0 c).Φ 0 := by
  rw [inv_zero]
  exact BI.Entails.refl _
theorem leave_inv (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) addressed (V₂ m c) ∗ Pipeline.ownSems0 regSem c ∗ Yk c) := by
  rw [inv_end]
  exact BI.Entails.refl _

/-- The offset's array after the region. -/
theorem array_end (c : Dev nD) (w : Fin 1) :
    (dat (F := F) m c).arrAt w cfg0.N = V₂ m c (Proc.devRef .tc (Pipeline.arrRef spec0 w)) := by
  match w with
  | 0 =>
    rw [show cfg0.N = t0_0.val + 1 from N_0, Dat.arrAt_succ, if_pos (flush0_0 t0_0)]
    refine Eq.trans ?_ (V₂_off m c).symm
    funext i
    have hy : ((cfg0.win 0).blk t0_0).view.emb i = i := by
      funext a; apply Fin.ext
      fin_cases a
      · show 0 * 1 + 1 * (i 0).val = (i 0).val; omega
      · show 0 * 1024 + 1 * (i 1).val = (i 1).val; omega
    conv_lhs => rw [← hy, View.write_emb_of_mem _ _ (Finset.mem_univ _)]
    rfl

/-- The other buffers the region does not write. -/
theorem rest_kept (c : Dev nD) (b : DevRef τ sig) (hb : b ∈ others \ addressed) : V₂ m c b = V₁ m c b := by
  obtain ⟨h, hn⟩ := Finset.mem_sdiff.mp hb
  refine V₂_of_ne m c b (fun e => hn (by subst e; decide)) (fun e => ?_)
  subst e
  exact absurd h (by decide)

theorem stage_level : ∀ (c : Dev nD) (s : Fin (win0_0).nbuf), lv ((c : Thread nD τ), .dma ((win0_0).sem s)) () ≤ 0 := by decide

theorem levels_cut : Pipeline.LevelCutOwed (pcfgs (F := F)) adm (pdats m) () L lv 0 (fun _ => 0) :=
  ⟨fun c w s => by rw [L_tc]; exact Finset.mem_singleton_self _,
   fun c w s => by
    match w with
    | 0 =>
      show lv ((c : Thread nD τ), .dma ((win0_0).sem s)) () ≤ 0
      exact stage_level c s,
   fun c t g i h => owed_above m c t g i h⟩

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The region. -/
def region : ℝ𝕊 0 :=
  Pipeline.RegionSeg.ofTalk (pcfgs (F := F)) adm (pdats m) () defs₀ 𝒱₀ L lv 0 regSem regSem_facts
    addressed others addressed_sub launch0.toP rfl (fun c => (body_point m c).loose)
    (fun _ => 0) O₀ (fun c => (owed_zero m c).trans (zero_add _).symm) (owed_end m) (fun _ => rfl)
    (fun c w => by match w with | 0 => rfl)
    (V₁ m) (V₂ m) (rest_kept m)
    (Tk m) Yk (Xk m) Yk (open_region m) (enter_inv m) (leave_inv m)
    (fun c => by iintro H; imodintro; iexact H)
    (fun _ => 0) (levels_cut m) (fun _ => iprop(emp))
    (fun _ _ => rfl) (array_end m)

/-- What rides beside the buffers: before the region the launch's share and the debt, after it the barrier counter. -/
def R₁ (c : Dev nD) : sProp 𝕄 := iprop((∃ r, prngReg c r) ∗ Tk m c ∗ ∃ W, owes (c : Thread nD τ) (O₀ c) W)
def R₂ (c : Dev nD) : sProp 𝕄 := iprop(semVal (barCell c) 0 ∗ ∃ W, owes (c : Thread nD τ) (0 : CellTallies nD τ sig Unit) W)

theorem region_pre (c : Dev nD) : iprop(StableHlo.held (c : Thread nD τ) (Pipeline.ucRefs τ sig) (V₁ m c) ∗ R₁ m c) ⊢ (region m).pre c := by
  show _ ⊢ iprop(StableHlo.held (c.tc : Thread nD τ) arrs (V₁ m c) ∗ (∃ r, prngReg c r)
    ∗ (StableHlo.held (c.tc : Thread nD τ) others (V₁ m c) ∗ emp) ∗ Tk m c ∗ ∃ Wd, owes (c : Thread nD τ) (0 + O₀ c) Wd)
  rw [zero_add, StableHlo.held_sub_split (c : Thread nD τ) arrs_sub]
  unfold R₁ others
  iintro ⟨⟨Ha, Hh⟩, Hp, HT, HO⟩
  isplitl [Ha]; · iexact Ha
  isplitl [Hp]; · iexact Hp
  isplitl [Hh]
  · isplitl [Hh]; · iexact Hh
    iempintro
  isplitl [HT]; · iexact HT
  iexact HO

theorem region_post (c : Dev nD) : (region m).post c ⊢ iprop(StableHlo.held (c : Thread nD τ) (Pipeline.ucRefs τ sig) (V₂ m c) ∗ R₂ c) := by
  show iprop(StableHlo.held (c.tc : Thread nD τ) arrs (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [StableHlo.held_sub_split (c : Thread nD τ) arrs_sub]
  unfold R₂ others Yk
  iintro ⟨Ha, -, ⟨Hh, -⟩, Hb, HO⟩
  isplitl [Ha Hh]
  · isplitl [Ha]; · iexact Ha
    iexact Hh
  isplitl [Hb]; · iexact Hb
  iexact HO

/-! ## The host operations after it -/

theorem tail_sub : ∀ op ∈ (hostOps1 : List (HloOp τ sig (Elt F))), op.bufs ⊆ Pipeline.ucRefs τ sig := fun op h =>
  Pipeline.sub_ucRefs op ((List.forall_iff_forall_mem.mp hostOps1_sub) op h)
theorem tail_fresh : ∀ op ∈ (hostOps1 : List (HloOp τ sig (Elt F))), op.fresh = ∅ := List.forall_iff_forall_mem.mp hostOps1_fresh

/-- The three operations that add the offset. -/
def tail : ℍ := Pipeline.HostSeg.ofOps _ _ _ _ _ (Pipeline.ucRefs τ sig) hostOps1 tail_sub tail_fresh (V₂ m) R₂

def segs : List (Pipeline.Seg (pcfgs (F := F)) adm (pdats m) () defs₀ 𝒱₀ L lv) := [.region (region m), .host (tail m)]

/-! ## The launch -/

/-- The launch element: the pipeline's, and the protocol's. -/
def u₀ : UU :=
  (initOf (Pipeline.cells (Pipeline.pin (pcfgs (F := F)) adm) cellOf_inj) (Pipeline.launchToks (Pipeline.pin (pcfgs (F := F)) adm) cellOf_inj),
    (dealt, 1))

/-- The protocol's element, held for the launch on device 0. -/
def held0 (c : Dev nD) : sProp 𝕄 := if c = 0 then BI.own (ER dealt) else iprop(emp)
theorem held0_all : bigSep Finset.univ (held0 (F := F)) = BI.own (ER dealt) := by
  rw [bigSep_univ_at _ (0 : Dev nD), bigSep_congr (s := Finset.univ.erase (0 : Dev nD)) (Ψ := fun _ => (BI.emp : sProp 𝕄))
      fun c hc => by unfold held0; rw [if_neg (Finset.ne_of_mem_erase hc)]; rfl, BI.bigSep_emp_const]
  unfold held0; rw [if_pos rfl]
  exact BI.equiv_iff.mp sep_emp

theorem bar_only (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (V₁ m c) ∗ R₁ m c)
abbrev Tₙ (c : Dev nD) : sProp 𝕄 :=
  iprop(StableHlo.held (c : Thread nD τ) (Pipeline.ucRefs τ sig) (StableHlo.after hostOps1 (V₂ m c)) ∗ semVal (barCell c) 0)

/-- What the launch gives a device beside the protocol. -/
def given (c : Dev nD) : sProp 𝕄 :=
  iprop(StableHlo.held (c : Thread nD τ) (Pipeline.ucRefs τ sig) (V₁ m c) ∗ creds c ∗ owes (c : Thread nD τ) (O₀ c) ∅ ∗ ∃ r, prngReg c r)

theorem start_of (κ : GSem nD τ sig → ℕ) (c : Dev nD) : iprop(records (tot m) κ ∗ (linear c ∗ given m c)) ⊢ T₀ m c := by
  unfold given T₀ R₁ Tk
  iintro ⟨#HR, Hl, Hh, HC, HO, Hp⟩
  isplitl [Hh]; · iexact Hh
  isplitl [Hp]; · iexact Hp
  isplitl [Hl HC]
  · isplitl [Hl]
    · iexists κ
      isplitr; · iexact HR
      iexact Hl
    iexact HC
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ held0 c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ held0 c)
      ⊢ (iprop(given m c ∗ (semVal (barCell c) 0 ∗ held0 c)) : sProp 𝕄) := by
    rw [show unscopedBufs c (fun b => m ((c : Thread nD τ).loc b)) = StableHlo.held (c : Thread nD τ) (Pipeline.ucRefs τ sig) (V₁ m c)
      from Pipeline.unscopedBufs_held c (V₁ m c), bar_only]
    unfold given
    iintro ⟨Hh, Hus, HO, Hcr, Hp, HG⟩
    ihave HC := (creds_of (F := F) c) $$ Hcr
    isplitl [Hh HC HO Hp]
    · isplitl [Hh]; · iexact Hh
      isplitl [HC]; · iexact HC
      isplitl [HO]; · iexact HO
      iexists (ρ c); iexact Hp
    isplitl [Hus]; · iexact Hus
    iexact HG
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ held0 c))
      ⊢ (bigSep Finset.univ fun c : Dev nD => iprop(given m c ∗ (semVal (barCell c) 0 ∗ held0 c)) : sProp 𝕄) from bigSep_mono fun c _ => hcore c) $$ H
  ihave H := (Entails.of_eq (bigSep_sep' _ _ _)) $$ H
  icases H with ⟨HB, H⟩
  ihave H := (Entails.of_eq (bigSep_sep' _ _ _)) $$ H
  icases H with ⟨Hv, HG⟩
  ihave Hu := (Entails.of_eq (held0_all (F := F))) $$ HG
  imod (deal (tot m)) $$ [Hv Hu] with ⟨%κ, #HR, Hl⟩
  · isplitl [Hv]; · iexact Hv
    iexact Hu
  imodintro
  iapply (bigSep_with_persistent (R := records (tot m) κ) (Φ := fun c => iprop(linear c ∗ given m c)) fun c _ => start_of m κ c)
  isplitr; · iexact HR
  iapply (Entails.of_eq (bigSep_sep' _ _ _).symm)
  isplitl [Hl]; · iexact Hl
  iexact HB

/-! ## The run -/

/-- The result: the output, and the offset rounded to bf16 and added to every row. -/
def result (c : Dev nD) : S8192x1024.Idx → F .bf16 :=
  addf (outVal (argOf m c)) (broadcastInDim S8192x1024 ![0, 1] bcast_S1x1024_S8192x1024_0_1 (truncf .bf16 (offVal c (tot m)) bitsLt_bf16_f32))

theorem end_arg (c : Dev nD) : StableHlo.after hostOps1 (V₂ m c) (Proc.devRef .tc main_arg0) = argOf m c := by
  rw [show StableHlo.after hostOps1 (V₂ m c) (Proc.devRef .tc main_arg0) = V₂ m c (Proc.devRef .tc main_arg0) by after_results]
  exact V₂_of_ne m c _ (by decide) (by decide)
theorem end_result (c : Dev nD) : StableHlo.after hostOps1 (V₂ m c) (Proc.devRef .tc main_v4) = result m c := by
  rw [StableHlo.after_cons, StableHlo.after_cons, StableHlo.after_cons, StableHlo.after_nil]
  after_results
  rw [V₂_off, V₂_out]
  rfl

theorem held_end (c : Dev nD) (V : Valuation τ sig (Elt F)) : (StableHlo.held (c : Thread nD τ) (Pipeline.ucRefs τ sig) V : sProp 𝕄)
    ⊢ iprop(((c : Thread nD τ).loc main_arg0 ↦{fullShare} V (Proc.devRef .tc main_arg0)) ∗ ((c : Thread nD τ).loc main_v4 ↦{fullShare} V (Proc.devRef .tc main_v4))) := by
  have e : (StableHlo.held (c : Thread nD τ) {Proc.devRef .tc main_arg0, Proc.devRef .tc main_v4} V : sProp 𝕄)
      = iprop(((c : Thread nD τ).loc main_arg0 ↦{fullShare} V (Proc.devRef .tc main_arg0)) ∗ ((c : Thread nD τ).loc main_v4 ↦{fullShare} V (Proc.devRef .tc main_v4))) := by
    unfold StableHlo.held
    rw [bigSep_eq_bigSepL_of_eq [Proc.devRef .tc main_arg0, Proc.devRef .tc main_v4] (by decide) (by decide)]
    rfl
  rw [← e]
  exact bigSep_subset (by decide)

theorem unscoped_sem : ∀ sm : SemLoc sig, sm.isScoped .tc = false → sm = .reg barS := by decide

set_option backward.isDefEq.respectTransparency.types false in
/-- From any memory with every counter at zero, every run of the program on the four devices ends, each argument as it
    was, each result as `result` says, every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v4) = result m c) ∧ r.2.sem = fun _ => 0) :=
  Pipeline.θ_run_regions_kit_sems (pcfgs (F := F)) adm (pdats m) () cellOf_inj EP defs₀ 𝒱₀ L lv m ρ main (segs m)
    (fun c Q => by
      rw [main_segs adm (pdats m) () 𝒱₀ L lv (tail m) (region m) rfl c]; rfl)
    (by simp only [segs, Pipeline.Seg.pipes_host, Pipeline.Seg.pipes_region, Pipeline.Seg.pipes_nil]; decide)
    (O₀ := O₀) (hL := L_of_ne) (G := held0) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imodintro
      isplitl [HP]; · iexact HP
      iapply (Entails.of_eq (held0_all (F := F)).symm)
      iexact HX)
    (T₀ := T₀ m) (Tₙ := Tₙ m)
    (hch := by
      refine ⟨fun c => region_pre m c, fun c => region_post m c, fun c => ?_⟩
      show iprop(StableHlo.held (c : Thread nD τ) (Pipeline.ucRefs τ sig) (StableHlo.after hostOps1 (V₂ m c)) ∗ R₂ c)
        ⊢ iprop(Tₙ m c ∗ ∃ W, owes (c : Thread nD τ) (0 : CellTallies nD τ sig Unit) W)
      unfold R₂
      iintro ⟨Hh, Hb, HO⟩
      isplitr [HO]
      · isplitl [Hh]; · iexact Hh
        iexact Hb
      iexact HO)
    (hinit := init m ρ)
    (QY := fun c s => (s.mem ((c : Thread nD τ).loc main_arg0) = argOf m c ∧ s.mem ((c : Thread nD τ).loc main_v4) = result m c)
      ∧ s.sem (barCell c) = 0)
    (hfin := fun c s' => by
      dsimp only [Tₙ]
      iintro ⟨⟨Hh, Hb⟩, HSI⟩
      ihave Hh := (held_end c _) $$ Hh
      icases Hh with ⟨Hx, Hy⟩
      icombine HSI Hx gives %hx
      icombine HSI Hy gives %hy
      icombine HSI Hb gives %hb
      imodintro
      isplitr
      · ipureintro
        exact ⟨⟨(Buf.eq_of_forall_mem_univ hx).trans (end_arg m c), (Buf.eq_of_forall_mem_univ hy).trans (end_result m c)⟩, by simpa using hb⟩
      iexact HSI)
    (hQ := fun s h hs => ⟨fun c => (h c).1,
      sem_eq_zero hs fun c sm hsm => by
        obtain rfl := unscoped_sem sm hsm
        exact (h c).2⟩)

end Cert.ScanProof
-- ==== Proof.Frames.lean ====
/-
  The frames: the kernel's, at the machine's floats and at the ideal ones, from the one run of `run_main`; the reference's,
  a line of host operations on a program without semaphores.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.ScanProof

open Idealize.ShloMosaic Idealize.SL.Sem

/-- The two printed programs have the same text: the same bodies, label by label, -/
theorem bodies_same : @Cert.Kernel.defs₀ Bits _ Cert.Kernel.Gen.facts = @Cert.KernelIdeal.defs₀ Bits _ Cert.KernelIdeal.Gen.facts :=
  congrArg Defs.onTc (funext fun ℓ => funext fun a => by
    match ℓ, a with
    | 0, (t, s) => rfl)

/-- and the same body tables. -/
theorem tables_same : @Cert.Kernel.defs Bits _ Cert.Kernel.Gen.facts = @Cert.KernelIdeal.defs Bits _ Cert.KernelIdeal.Gen.facts :=
  congrArg (Pipeline.defs (Cert.KernelIdeal.pcfgs (F := Bits))) bodies_same

/-- The kernel's run at the machine's floats ends, with its argument unchanged and every counter at zero: its text is
    the idealized program's, whose run is proved over any floats. -/
theorem frame_kernel : Cert.quiescent_Kernel (hKernel := Cert.Kernel.Gen.facts) := fun m ρ _ => by
  rw [tables_same]
  exact (θ_run Cert.KernelIdeal.defs _ _).mono (fun _ h => ⟨fun c => (h.1 c).1, h.2⟩) (run_main (F := Bits) m ρ)

/-- The same at the ideal floats. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (run_main (F := Ideal) m ρ)

/-- The reference's run ends with its argument unchanged; it has no counters. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.ScanProof
-- ==== Proof.Equal.lean ====
/-
  The kernel's results are the row blocks of the reference's result: on each device the running sums of its own rows,
  plus the totals of the devices before it, are the running sums of the whole.
-/
module

public import proofs.«01_k».proof.Proof.Sums
public import proofs.«01_k».proof.Proof.Reference
public import proofs.«01_k».proof.Proof.Frames
public import Idealize.ShloMosaic.Lib.Layout

@[expose] public section

set_option maxRecDepth 16384

noncomputable section

namespace Cert.ScanProof

open Cert.KernelIdeal Cert.KernelIdeal.Gen
open Idealize.ShloMosaic Idealize.ShloMosaic.ValueIdx Idealize.SL.Sem
open Idealize.ShloMosaic.TcCoe
open scoped BigOperators

/-- The whole argument, four devices' rows one after the other. -/
abbrev Whole : Type := (⟨2, ![32768, 1024]⟩ : Shape).Idx → EReal

/-- Column j of the whole argument, row by row. -/
def colAll (X : Whole) (j : Fin 1024) (r : ℕ) : EReal := X (ix2 ⟨r % 32768, Nat.mod_lt _ (by decide)⟩ j)

/-- The whole's running sums: what the reference computes from it. -/
def scanned (X : Whole) : Cert.ReferenceIdeal.S32768x1024.Idx → EReal :=
  truncf (F := Ideal) .bf16 (Host.reduceWindowAdd (F := Ideal) ![32768, 1] ![1, 1] ![32767, 0] ![0, 0] (φ := .f32) X
    (broadcastInDim Cert.ReferenceIdeal.S_ ![] Cert.ReferenceIdeal.Gen.bcast_S_S_ (constant (F := Ideal) Cert.ReferenceIdeal.S_ .f32 0x00000000#32))
    Cert.ReferenceIdeal.Gen.reduceWindows_S32768x1024_S32768x1024_w32768s1p32767_0_w1s1p0_0 Cert.ReferenceIdeal.Gen.h_S_)
    Cert.ReferenceIdeal.Gen.bitsLt_bf16_f32

/-- At (i, j): the sum of column j down to row i. -/
theorem scanned_apply (X : Whole) (i : Fin 32768) (j : Fin 1024) :
    scanned X (ix2 i j) = ∑ r ∈ Finset.range (i.val + 1), colAll X j r := by
  have h := windowed 32768 32767 1024 rfl X (colAll X j)
    Cert.ReferenceIdeal.Gen.reduceWindows_S32768x1024_S32768x1024_w32768s1p32767_0_w1s1p0_0 i j
    (fun r => congrArg X (congrArg (ix2 · j) (Fin.ext (Nat.mod_eq_of_lt r.isLt).symm)))
  unfold scanned
  rw [windowed_ideal]
  have e : broadcastInDim Cert.ReferenceIdeal.S_ ![] Cert.ReferenceIdeal.Gen.bcast_S_S_ (constant (F := Ideal) Cert.ReferenceIdeal.S_ .f32 0x00000000#32)
      (Shape.Idx.first Cert.ReferenceIdeal.Gen.h_S_) = (0 : EReal) := zero_word
  rw [e, h]

/-- Sums of n runs of L terms are the sum of the first n L terms. -/
theorem runs_sum (L : ℕ) (f : ℕ → EReal) : ∀ n : ℕ,
    ∑ d ∈ Finset.range n, ∑ r ∈ Finset.range L, f (d * L + r) = ∑ r ∈ Finset.range (n * L), f r
  | 0 => by rw [Nat.zero_mul, Finset.sum_range_zero, Finset.sum_range_zero]
  | n + 1 => by rw [Finset.sum_range_succ, runs_sum L f n, Nat.succ_mul, Finset.sum_range_add]

variable (m : (ℓ : Loc nD τ sig) → Buf (Elt Ideal) ℓ)

/-- A device's result at (i, j): its own rows' sum and the offset. -/
theorem result_split (c : Dev nD) (i : Fin 8192) (j : Fin 1024) :
    result m c (ix2 i j) = outVal (F := Ideal) (argOf m c) (ix2 i j) + offVal c (tot m) (ix2 0 j) := by
  refine congrArg (outVal (F := Ideal) (argOf m c) (ix2 i j) + ·) (congrArg (offVal c (tot m)) (funext fun a => ?_))
  match a with
  | 0 => rfl
  | 1 => rfl

/-- Where the devices' arguments are the whole's row blocks, a device's column is a stretch of the whole's. -/
theorem col_block (X : Whole) (c : Dev nD) (j : Fin 1024)
    (h : argOf m c = Layout.block ⟨2, ![8192, 1024]⟩ ⟨2, ![32768, 1024]⟩ 0 4 c X) (r : ℕ) (hr : r < 8192) :
    colOf (argOf m c) j r = colAll X j (c.val * 8192 + r) := by
  have hc : c.val < 4 := c.isLt
  unfold colOf colAll
  rw [h, Layout.block_apply]
  refine congrArg X (funext fun a => Fin.ext ?_)
  match a with
  | 0 =>
    show c.val * 8192 + r % 8192 = (c.val * 8192 + r) % 32768
    omega
  | 1 => rfl

/-- So each device's result is its row block of the whole's running sums. -/
theorem result_block (X : Whole) (h : ∀ c, argOf m c = Layout.block ⟨2, ![8192, 1024]⟩ ⟨2, ![32768, 1024]⟩ 0 4 c X) (c : Dev nD) :
    result m c = Layout.block ⟨2, ![8192, 1024]⟩ ⟨2, ![32768, 1024]⟩ 0 4 c (scanned X) := by
  funext k
  obtain ⟨i, j, rfl⟩ : ∃ (i : Fin 8192) (j : Fin 1024), k = ix2 i j := ⟨k 0, k 1, funext fun a => by
    match a with
    | 0 => rfl
    | 1 => rfl⟩
  have hc : c.val < 4 := c.isLt
  have hi := i.isLt
  have hs : Layout.block ⟨2, ![8192, 1024]⟩ ⟨2, ![32768, 1024]⟩ 0 4 c (scanned X) (by decide) (ix2 i j)
      = scanned X (ix2 ⟨c.val * 8192 + i.val, by omega⟩ j) := by
    rw [Layout.block_apply]
    refine congrArg (scanned X) (funext fun a => Fin.ext ?_)
    match a with
    | 0 => rfl
    | 1 => rfl
  have ho := offVal_apply c (tot m) (fun d => ∑ r ∈ Finset.range 8192, colAll X j (d * 8192 + r)) j fun d =>
    (total_apply (argOf m d) j).trans (Finset.sum_congr rfl fun r hr => col_block m X d j (h d) r (Finset.mem_range.1 hr))
  rw [runs_sum] at ho
  have hv := (outVal_apply (argOf m c) i j).trans (Finset.sum_congr rfl fun r hr =>
    col_block m X c j (h c) r (by have := Finset.mem_range.1 hr; omega))
  have hr := (result_split m c i j).trans (congrArg₂ (· + ·) hv ho)
  rw [hr, hs, scanned_apply, add_comm]
  rw [Nat.add_assoc, Finset.sum_range_add (colAll X j) (c.val * 8192) (i.val + 1)]

/-- From arguments that agree, every run of the kernel and every run of the reference end with the same result, the
    kernel's cut in row blocks. -/
theorem same_result : Cert.algebraic_KernelIdeal_ReferenceIdeal (hKernelIdeal := Cert.KernelIdeal.Gen.facts)
    (hReferenceIdeal := Cert.ReferenceIdeal.Gen.facts) := fun m ρ m' ρ' _ hagree =>
  ⟨scanned (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c).2).trans (result_block m _ hagree c), (h.1 c).1⟩) (run_main (F := Ideal) m ρ),
    (θ_run Cert.ReferenceIdeal.defs _ _).mono (fun _ h => h 0) (Cert.ReferenceIdeal.Value.run (F := Ideal) m' ρ')⟩

end Cert.ScanProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.ScanProof.frame_kernel, Cert.ScanProof.frame_ideal, Cert.ScanProof.frame_reference, trivial, Cert.ScanProof.same_result⟩

end Cert.Proof

end
